-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal (hKernelIdeal := hKernelIdeal) (hReferenceIdeal := hReferenceIdeal) (hPre_tokens_in_range := hPre_tokens_in_range)
-- ==== Pre_tokens_in_range.lean ====
abbrev S2048 : Shape := ⟨1, ![2048]⟩
abbrev S50257x128 : Shape := ⟨2, ![50257, 128]⟩
abbrev S128x128 : Shape := ⟨2, ![128, 128]⟩
abbrev S128 : Shape := ⟨1, ![128]⟩
abbrev S128x50257 : Shape := ⟨2, ![128, 50257]⟩
abbrev S50257 : Shape := ⟨1, ![50257]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S50257x128 .f32) (main_arg2 : FVec F S128x128 .f32) (main_arg3 : FVec F S128 .f32) (main_arg4 : FVec F S128x128 .f32) (main_arg5 : FVec F S128 .f32) (main_arg6 : FVec F S128x50257 .f32) (main_arg7 : FVec F S50257 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 50257#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048 : Shape := ⟨1, ![2048]⟩
abbrev S50257x128 : Shape := ⟨2, ![50257, 128]⟩
abbrev S128x128 : Shape := ⟨2, ![128, 128]⟩
abbrev S128 : Shape := ⟨1, ![128]⟩
abbrev S128x50257 : Shape := ⟨2, ![128, 50257]⟩
abbrev S50257 : Shape := ⟨1, ![50257]⟩
abbrev S2048x128 : Shape := ⟨2, ![2048, 128]⟩
abbrev S64 : Shape := ⟨1, ![64]⟩
abbrev S64x128 : Shape := ⟨2, ![64, 128]⟩
abbrev S_ : Shape := ⟨0, ![]⟩
abbrev S1x128 : Shape := ⟨2, ![1, 128]⟩
abbrev S128x1 : Shape := ⟨2, ![128, 1]⟩
abbrev S1x50257 : Shape := ⟨2, ![1, 50257]⟩
abbrev S50257x2048 : Shape := ⟨2, ![50257, 2048]⟩
abbrev S1x2048 : Shape := ⟨2, ![1, 2048]⟩
abbrev S2048x2048 : Shape := ⟨2, ![2048, 2048]⟩
abbrev S128x2048 : Shape := ⟨2, ![128, 2048]⟩
abbrev S2048x50257 : Shape := ⟨2, ![2048, 50257]⟩

abbrev nBuf : Table → Nat
  | .hbm => 15
  | .local .tc .vmem => 12
  | .local .scVector .vmem => 2
  | _ => 0

abbrev bufTy : (tb : Table) → Fin (nBuf tb) → BufTy
  | .hbm, ⟨0, _⟩ => ⟨S2048, .i32⟩
  | .hbm, ⟨1, _⟩ => ⟨S50257x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x50257, .f32⟩
  | .hbm, ⟨7, _⟩ => ⟨S50257, .f32⟩
  | .hbm, ⟨8, _⟩ => ⟨S2048x128, .f32⟩
  | .hbm, ⟨9, _⟩ => ⟨S1x128, .f32⟩
  | .hbm, ⟨10, _⟩ => ⟨S128x1, .f32⟩
  | .hbm, ⟨11, _⟩ => ⟨S50257x128, .f32⟩
  | .hbm, ⟨12, _⟩ => ⟨S1x50257, .f32⟩
  | .hbm, ⟨13, _⟩ => ⟨S50257x2048, .f32⟩
  | .hbm, ⟨14, _⟩ => ⟨S2048x50257, .f32⟩
  | .local .tc .vmem, ⟨0, _⟩ => ⟨S2048x128, .f32⟩
  | .local .tc .vmem, ⟨1, _⟩ => ⟨S128x128, .f32⟩
  | .local .tc .vmem, ⟨2, _⟩ => ⟨S1x128, .f32⟩
  | .local .tc .vmem, ⟨3, _⟩ => ⟨S128x128, .f32⟩
  | .local .tc .vmem, ⟨4, _⟩ => ⟨S128x1, .f32⟩
  | .local .tc .vmem, ⟨5, _⟩ => ⟨S2048x128, .f32⟩
  | .local .tc .vmem, ⟨6, _⟩ => ⟨S2048x128, .f32⟩
  | .local .tc .vmem, ⟨7, _⟩ => ⟨S1x2048, .f32⟩
  | .local .tc .vmem, ⟨8, _⟩ => ⟨S1x2048, .f32⟩
  | .local .tc .vmem, ⟨9, _⟩ => ⟨S2048x2048, .f32⟩
  | .local .tc .vmem, ⟨10, _⟩ => ⟨S2048x2048, .f32⟩
  | .local .tc .vmem, ⟨11, _⟩ => ⟨S128x2048, .f32⟩
  | .local .scVector .vmem, ⟨0, _⟩ => ⟨S64, .i32⟩
  | .local .scVector .vmem, ⟨1, _⟩ => ⟨S64x128, .f32⟩
  | _, _ => ⟨S2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_arg0_scv : Ref sig .scVector := ⟨.hbm, 0, rfl⟩
abbrev main_arg1_scv : Ref sig .scVector := ⟨.hbm, 1, rfl⟩
abbrev main_v0_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg5_1 : Ref sig .tc := ⟨.vmem, 6, rfl⟩
abbrev cc1_stg6_0 : Ref sig .tc := ⟨.vmem, 7, rfl⟩
abbrev cc1_stg6_1 : Ref sig .tc := ⟨.vmem, 8, rfl⟩
abbrev cc1_stg7_0 : Ref sig .tc := ⟨.vmem, 9, rfl⟩
abbrev cc1_stg7_1 : Ref sig .tc := ⟨.vmem, 10, rfl⟩
abbrev cc1_scratch0 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem5_1 : DmaSem sig := 9
abbrev cc1_sem6_0 : DmaSem sig := 10
abbrev cc1_sem6_1 : DmaSem sig := 11
abbrev cc1_sem7_0 : DmaSem sig := 12
abbrev cc1_sem7_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3_r1 : BitVec 32 := 0#32
  ![v2.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048 : Shape := ⟨1, ![2048]⟩
abbrev S50257x128 : Shape := ⟨2, ![50257, 128]⟩
abbrev S128x128 : Shape := ⟨2, ![128, 128]⟩
abbrev S128 : Shape := ⟨1, ![128]⟩
abbrev S128x50257 : Shape := ⟨2, ![128, 50257]⟩
abbrev S50257 : Shape := ⟨1, ![50257]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x128 : Shape := ⟨2, ![2048, 128]⟩
abbrev S1x128 : Shape := ⟨2, ![1, 128]⟩
abbrev S2048x50257 : Shape := ⟨2, ![2048, 50257]⟩
abbrev S1x50257 : Shape := ⟨2, ![1, 50257]⟩

abbrev nBuf : Space → Nat
  | .hbm => 49
  | .vmem => 0
  | .smem => 0
  | _ => 0

abbrev bufTy : (tb : Table) → Fin (tcTables nBuf tb) → BufTy
  | .hbm, ⟨0, _⟩ => ⟨S2048, .i32⟩
  | .hbm, ⟨1, _⟩ => ⟨S50257x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x50257, .f32⟩
  | .hbm, ⟨7, _⟩ => ⟨S50257, .f32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S1, .i32⟩
  | .hbm, ⟨17, _⟩ => ⟨S_, .i32⟩
  | .hbm, ⟨18, _⟩ => ⟨S2048x1, .i32⟩
  | .hbm, ⟨19, _⟩ => ⟨S2048x1, .i1⟩
  | .hbm, ⟨20, _⟩ => ⟨S1x1, .i32⟩
  | .hbm, ⟨21, _⟩ => ⟨S2048x1, .i32⟩
  | .hbm, ⟨22, _⟩ => ⟨S2048x1, .i1⟩
  | .hbm, ⟨23, _⟩ => ⟨S2048x1, .i1⟩
  | .hbm, ⟨24, _⟩ => ⟨S_, .i1⟩
  | .hbm, ⟨25, _⟩ => ⟨S2048, .i1⟩
  | .hbm, ⟨26, _⟩ => ⟨S2048x128, .f32⟩
  | .hbm, ⟨27, _⟩ => ⟨S2048x128, .i1⟩
  | .hbm, ⟨28, _⟩ => ⟨S_, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S1x128, .f32⟩
  | .hbm, ⟨33, _⟩ => ⟨S2048x128, .f32⟩
  | .hbm, ⟨34, _⟩ => ⟨S2048x128, .f32⟩
  | .hbm, ⟨35, _⟩ => ⟨S_, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S1x128, .f32⟩
  | .hbm, ⟨40, _⟩ => ⟨S2048x128, .f32⟩
  | .hbm, ⟨41, _⟩ => ⟨S2048x128, .f32⟩
  | .hbm, ⟨42, _⟩ => ⟨S_, .f32⟩
  | .hbm, ⟨43, _⟩ => ⟨S2048x128, .f32⟩
  | .hbm, ⟨44, _⟩ => ⟨S2048x128, .f32⟩
  | .hbm, ⟨45, _⟩ => ⟨S2048x50257, .f32⟩
  | .hbm, ⟨46, _⟩ => ⟨S1x50257, .f32⟩
  | .hbm, ⟨47, _⟩ => ⟨S2048x50257, .f32⟩
  | .hbm, ⟨48, _⟩ => ⟨S2048x50257, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_cst : Ref sig .tc := ⟨.hbm, 35, rfl⟩
abbrev main_call1_v0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call2_cst : Ref sig .tc := ⟨.hbm, 42, rfl⟩
abbrev main_call2_v0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩

abbrev nD : Nat := 1
abbrev τ : Topo := Topo.v7x

variable {F : FTy → Type} [FloatOps F]
-- ==== Proof.KernelIdeal.Tile.lean ====
/-
  The lookup of the token rows, one task at a time. Each of the 2 × 16 vector subcores fetches its 64 token numbers,
  transfers the 64 table rows they name into its row buffer, and writes them out to its 64 rows of the result. The
  statement below carries the values: the task's rows of the result end at `Gth`, the array whose row `r` is the table's
  row number `tokens[r]`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.RunKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The four launch semaphores are distinct and not reset by a region, and no shared buffer is a task's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The table row that token number `j` names, as an index of the table. -/
def tokRow (d : Dev nD) (j : S2048.Idx) : Fin 50257 := if h : (m (iLoc d) j).toNat < 50257 then ⟨(m (iLoc d) j).toNat, h⟩ else 0

/-- What the lookup delivers: row `r` is the table's row `tokens[r]`. -/
def Gth (d : Dev nD) : S2048x128.Idx → Elt F .f32 := fun x =>
  m (xLoc d) (fun | 0 => tokRow m d (fun | 0 => x 0) | 1 => x 1)

/-- What the proof asks of the launch memory: every token number is below 50257. -/
def PreOK : Prop := ∀ (d : Dev nD) (j : S2048.Idx), (m (iLoc d) j).toNat < 50257

/-! ## Who looks up what

  Task `(c, s)`, subcore `s` of core `c`, has block `2 s + c` of the blocks of 64: places `128 s + 64 c` onwards. -/

/-- The task that has place `n` of the 2048. -/
def whoHas (n : Fin 2048) : Fin 2 × Fin 16 := (⟨n.val / 64 % 2, by omega⟩, ⟨n.val / 128, by omega⟩)

/-- The places of task `t` among the token numbers. -/
def toksOf (t : Fin 2 × Fin 16) : Finset S2048.Idx := Finset.univ.filter fun j => whoHas (j 0) = t
/-- The elements of task `t` in the result. -/
def rowsOf (t : Fin 2 × Fin 16) : Finset S2048x128.Idx := Finset.univ.filter fun x => whoHas (x 0) = t
/-- The tasks numbered, for the shares of the table. -/
def shareNo : Fin 2 × Fin 16 ≃ Fin 32 := finProdFinEquiv
/-- The share of the table that task `t` reads it by. -/
def tblShare (t : Fin 2 × Fin 16) : PosShare TreeShare := ShareLeaves.leaf 5 fullShare (shareNo t)

/-- What task `t` works on: its token numbers, its share of the table, its rows of the result at `f`. -/
abbrev piece (d : Dev nD) (f : Buf (Elt F) (oLoc d)) (t : Fin 2 × Fin 16) : sProp 𝕄 :=
  iprop((iLoc d ↦[toksOf t]{fullShare} m (iLoc d)) ∗ (xLoc d ↦{tblShare t} m (xLoc d)) ∗ (oLoc d ↦[rowsOf t]{fullShare} f))

variable [FloatOps F]

section Task

variable (d : Dev nD) (L : grid0.Coords)

/-- The task at grid point `L`, and its thread. -/
def me : Fin 2 × Fin 16 := (Fin.cast rfl (L 0), Fin.cast rfl (L 1))
abbrev thrOf : Thread nD τ := V d ((L 0).castLE hcore0) ((L 1).castLE hsub0)

/-- The windows the kernel's text cuts: 64 token numbers, 64 rows of the result, all of the table. -/
abbrev tokWin : Memref sig .scVector .hbm S64 .i32 :=
  (Memref.whole main_arg0_scv).slice (Rect.unit (s := S2048) (k0_off1 L) S64.size (k0_off1_inb L)) (fun _ => rfl)
abbrev rowWin : Memref sig .scVector .hbm S64x128 .f32 :=
  (Memref.whole main_v0_scv).slice (Rect.unit (s := S2048x128) (k0_off2 L) S64x128.size (k0_off2_inb L)) (fun _ => rfl)
abbrev tblWin : Memref sig .scVector .hbm S50257x128 .f32 :=
  (Memref.whole main_arg1_scv).slice (Rect.unit (s := S50257x128) ![0, 0] S50257x128.size inb_S50257x128_S50257x128_0_0) (fun _ => rfl)

/-- A place is the task's exactly if it lies in the 64 from `128 s + 64 c`. -/
theorem whoHas_eq_me (n : Fin 2048) :
    whoHas n = me L ↔ 128 * (L 1).val + 64 * (L 0).val ≤ n.val ∧ n.val < 128 * (L 1).val + 64 * (L 0).val + 64 := by
  have h0 : (L 0).val < 2 := (L 0).isLt
  have h1 : (L 1).val < 16 := (L 1).isLt
  refine Prod.ext_iff.trans ((and_congr Fin.ext_iff Fin.ext_iff).trans ?_)
  show n.val / 64 % 2 = (L 0).val ∧ n.val / 128 = (L 1).val ↔ _
  omega

theorem tokWin_set : (tokWin L).view.set = toksOf (me L) := by
  ext j
  refine (Finset.ext_iff.mp (View.set_slice_whole (main_arg0_scv : Ref sig .scVector) _) j).trans (Rect.mem_set_unit.trans ?_)
  refine Iff.trans ?_ ((Finset.mem_filter (p := fun j : S2048.Idx => whoHas (j 0) = me L)).trans (and_congr_right fun _ => whoHas_eq_me L (j 0))).symm
  rw [k0_off1_eq]
  exact ⟨fun h => ⟨Finset.mem_univ _, h 0⟩, fun h a => by match a with | 0 => exact h.2⟩

theorem rowWin_set : (rowWin L).view.set = rowsOf (me L) := by
  ext x
  refine (Finset.ext_iff.mp (View.set_slice_whole (main_v0_scv : Ref sig .scVector) _) x).trans (Rect.mem_set_unit.trans ?_)
  refine Iff.trans ?_ ((Finset.mem_filter (p := fun x : S2048x128.Idx => whoHas (x 0) = me L)).trans (and_congr_right fun _ => whoHas_eq_me L (x 0))).symm
  rw [k0_off2_eq]
  refine ⟨fun h => ⟨Finset.mem_univ _, h 0⟩, fun h a => ?_⟩
  match a with
  | 0 => exact h.2
  | 1 => exact ⟨Nat.zero_le _, (x 1).isLt.trans_eq (Nat.zero_add _).symm⟩

/-- Members listed without repetition come out of a separated product one by one. -/
theorem bigSep_take {I : Type} [DecidableEq I] {Φ : I → sProp 𝕄} (l : List I) : ∀ (s : Finset I), l.Nodup → (∀ i ∈ l, i ∈ s) →
    bigSep s Φ = l.foldr (fun i R => iprop(Φ i ∗ R)) (bigSep (s \ l.toFinset) Φ) := by
  induction l with
  | nil => intro s _ _; simp
  | cons i l ih =>
    intro s hn hs
    have hn' := List.nodup_cons.mp hn
    rw [SparseCore.bigSep_erase' (hs i List.mem_cons_self),
      ih (s.erase i) hn'.2 fun k hk => Finset.mem_erase.mpr ⟨fun e => hn'.1 (e ▸ hk), hs k (List.mem_cons_of_mem _ hk)⟩,
      List.foldr_cons, List.toFinset_cons, Finset.erase_sdiff_comm, ← Finset.sdiff_insert]

/-- The semaphores of the three transfers. -/
abbrev taskSems : List (GSem nD τ sig) :=
  [(thrOf d L, .dma cc0_scoped0.sem), (thrOf d L, .dma cc0_scratch2.sem), (thrOf d L, .dma cc0_scoped1.sem)]
/-- The task's scratch buffers: the fetched token numbers and the rows. -/
abbrev taskBufs : List (DevRef τ sig) := [(thrOf d L).2.devRef cc0_scratch0, (thrOf d L).2.devRef cc0_scratch1]

theorem sems_take : (ownSems0 (thrOf d L) : sProp 𝕄) = (taskSems d L).foldr (fun g R => iprop(semVal g 0 ∗ R))
    (bigSep (ownCells (thrOf d L) \ (taskSems d L).toFinset) fun g => semVal g 0) := by
  refine bigSep_take (taskSems d L) _ ?_ ?_
  · refine List.Nodup.map (f := fun l : SemLoc sig => ((thrOf d L, l) : GSem nD τ sig)) (fun _ _ e => (Prod.mk.inj e).2)
      (l := [.dma cc0_scoped0.sem, .dma cc0_scratch2.sem, .dma cc0_scoped1.sem]) (by decide)
  · intro g hg
    obtain ⟨l, hl, rfl⟩ := List.mem_map.mp (show g ∈ [SemLoc.dma cc0_scoped0.sem, .dma cc0_scratch2.sem, .dma cc0_scoped1.sem].map
      fun l : SemLoc sig => ((thrOf d L, l) : GSem nD τ sig) from hg)
    exact mem_ownCells.mpr ⟨rfl, (show ∀ l ∈ [SemLoc.dma cc0_scoped0.sem, .dma cc0_scratch2.sem, .dma cc0_scoped1.sem],
      (l : SemLoc sig).isScoped .scVector = true by decide) l hl⟩

theorem bufs_take : (ownBufs (thrOf d L) : sProp 𝕄) = (taskBufs d L).foldr (fun b R => iprop((∃ f, ((d, b) : Loc nD τ sig) ↦{fullShare} f) ∗ R))
    (bigSep (ownRefs (thrOf d L).2 \ (taskBufs d L).toFinset) fun b => iprop(∃ f, ((d, b) : Loc nD τ sig) ↦{fullShare} f)) := by
  refine bigSep_take (taskBufs d L) _ ?_ ?_
  · exact List.Nodup.map (Proc.devRef_injective _) (l := [(cc0_scratch0 : Ref sig .scVector), cc0_scratch1]) (by decide)
  · intro b hb
    rcases List.mem_pair.mp hb with rfl | rfl <;> exact SparseCore.Cfg.mem_ownRefs_of_owner rfl

/-- The scratch's contents once a block of token numbers has landed over `fs`. -/
theorem landed_toks (fs : Buf (Elt F) ((thrOf d L).loc cc0_scratch0)) (k : S64.Idx) :
    (Memref.whole cc0_scratch0).view.read (Elt F) ((Memref.whole cc0_scratch0).view.write (Elt F) fs
        (ReadAs.same.apply ((tokWin L).view.read (Elt F) (m (iLoc d)))) Finset.univ) k = m (iLoc d) ((tokWin L).view.emb k) := by
  rw [View.write_whole_univ]
  simp only [Memref.view_whole, View.read_whole]
  exact (View.read_apply _ _).trans (cast_eq _ _)

/-- The gather through a list of the block's token numbers has, at row `x 0`, the block's row of `Gth`. -/
theorem looked_up (hpre : PreOK m) (list : S64.Idx → Elt F .i32) (hl : ∀ k, list k = m (iLoc d) ((tokWin L).view.emb k))
    (hin : ∀ k, (list k).toNat < S50257x128.size gathers_S50257x128_S64x128.axis) (x : S64x128.Idx) :
    SparseCore.gatherPayload gathers_S50257x128_S64x128 (tblWin.view.read (Elt F) (m (xLoc d))) (SparseCore.rows list rfl hin) x
      = Gth m d ((rowWin L).view.emb x) := by
  -- the list's entry for row `x 0` is the token number at that row's place
  have hk : ∀ k : S64.Idx, (k 0).val = (x 0).val → (tokWin L).view.emb k = fun | 0 => (rowWin L).view.emb x 0 := fun k hk => by
    funext a
    match a with
    | 0 =>
      refine Fin.ext (show k0_off1 L 0 + 1 * (k 0).val = k0_off2 L 0 + 1 * (x 0).val from ?_)
      rw [k0_off1_eq, k0_off2_eq, hk]; rfl
  refine ((View.read_apply _ _).trans (cast_eq _ _)).trans (congrArg (m (xLoc d)) (funext fun b => ?_))
  match b with
  | 0 =>
    refine Fin.ext (show 0 + 1 * (gathers_S50257x128_S64x128.idx _ x gathers_S50257x128_S64x128.axis).val = (tokRow m d _).val from ?_)
    rw [Shape.Gathers.idx_axis, tokRow, dif_pos (hpre d _), Nat.zero_add, Nat.one_mul]
    show (list (S64.rowMajor.symm _)).toNat = _
    rw [hl, hk _ (by rw [← Shape.rowMajor_val_one (S64.rowMajor.symm _), Equiv.apply_symm_apply]; rfl)]
    exact congrArg (fun j => (m (iLoc d) j).toNat) (funext fun a => match a with | 0 => rfl)
  | 1 =>
    refine Fin.ext (show 0 + 1 * (gathers_S50257x128_S64x128.idx _ x 1).val = k0_off2 L 1 + 1 * (x 1).val from ?_)
    rw [Shape.Gathers.idx_of_ne _ _ _ _ (by decide), k0_off2_eq]; rfl

/-- Rows written to the window are the window's rows of `Gth` if each agrees with its own. -/
theorem window_rows (f : Buf (Elt F) (oLoc d)) (w : S64x128.Idx → Elt F .f32) (hw : ∀ x, w x = Gth m d ((rowWin L).view.emb x)) :
    ∀ i ∈ (rowWin L).view.set, (rowWin L).view.writes (Elt F) f [⟨Rect.whole S64x128, w⟩] i = Gth m d i := fun i hi => by
  obtain ⟨x, -, rfl⟩ := Finset.mem_map.mp hi
  exact (((View.read_apply _ _).trans (cast_eq _ _)).symm.trans (congrFun (View.read_writes_whole (rowWin L).view f w) x)).trans (hw x)

set_option maxHeartbeats 800000 in
/-- Task `L` of device `d` turns its piece's rows into those of `Gth`. -/
theorem task_run (hF : (K (F := F)).Facts) (hpre : PreOK m) (O : CellTallies nD τ sig (HIx 1)) (W : Waits sig (HIx 1)) (hO : ∀ g, O g none = 0) :
    iprop(levAts (K (F := F)).L (K (F := F)).lev ∗ emp ∗ piece m d (m (oLoc d)) (me L)
        ∗ scopedBufs (thrOf d L) ∗ scopedSems0 (thrOf d L) ∗ owes (thrOf d L) O W)
      ⊢ wp frame (wpE (defs₀ (F := F)) 𝒱₀ (thrOf d L) none) Set.univ
          (cc0_gather_kernel L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) cc0_scratch2 cc0_scoped0 cc0_scoped1)
          fun _ => iprop(piece m d (Gth m d) (me L) ∗ scopedBufs (thrOf d L) ∗ scopedSems0 (thrOf d L)
            ∗ ∃ W', ⌜∀ p ∈ W', p ∈ W ∨ p.2 = none ∨ p.2 = some 0⌝ ∗ owes (thrOf d L) O W') := by
  rw [cc0_gather_kernel_eq_skeleton, (K (F := F)).scopedBufs_V hF, SparseCore.Cfg.scopedSems0_V (Val := Elt F), sems_take, bufs_take]
  unfold cc0_gather_kernel_skel piece
  rw [← tokWin_set, ← rowWin_set]
  have named : ∀ (fs : Buf (Elt F) ((thrOf d L).loc cc0_scratch0)) (k : S64.Idx),
      ((Memref.whole cc0_scratch0).view.read (Elt F) ((Memref.whole cc0_scratch0).view.write (Elt F) fs
        (ReadAs.same.apply ((tokWin L).view.read (Elt F) (m (iLoc d)))) Finset.univ) k).toNat
          < S50257x128.size gathers_S50257x128_S64x128.axis := fun fs k => by
    rw [landed_toks]; exact hpre d _
  change iprop(_ ∗ _ ∗ (((tokWin L).view.loc (thrOf d L) ↦[(tokWin L).view.set]{fullShare} m (iLoc d))
      ∗ ((Memref.whole main_arg1_scv).view.loc (thrOf d L) ↦{tblShare (me L)} m (xLoc d))
      ∗ ((rowWin L).view.loc (thrOf d L) ↦[(rowWin L).view.set]{fullShare} m (oLoc d)))
    ∗ ((∃ fs, (Memref.whole cc0_scratch0).view.loc (thrOf d L) ↦{fullShare} fs)
      ∗ (∃ fr, (Memref.whole cc0_scratch1).view.loc (thrOf d L) ↦{fullShare} fr) ∗ _)
    ∗ (semVal (thrOf d L, .dma cc0_scoped0.sem) 0 ∗ semVal (thrOf d L, .dma cc0_scratch2.sem) 0
      ∗ semVal (thrOf d L, .dma cc0_scoped1.sem) 0 ∗ _) ∗ _) ⊢ _
  iintro ⟨#Hlv, -, ⟨Htok, Htbl, Hrow⟩, ⟨⟨%fs, Hs⟩, ⟨%fr, Hr⟩, Hbufs⟩, ⟨Ha, Hb, Hc, Hsems⟩, HO⟩
  ihave Hw := (K (F := F)).mayWaits_none (thr := thrOf d L) hO $$ Hlv
  sl_exec
  sl_step
  have hrows := window_rows m d L (m (oLoc d)) (task_run.sl.dma0_1 m d L named fs fr) fun x =>
    (congrFun (View.read_writes_whole (Memref.whole cc0_scratch1).view fr (task_run.sl.gather1 m d L named fs)) x).trans
      (looked_up m d L hpre _ (landed_toks m d L fs) (named fs) x)
  ihave Hrow' := (Entails.of_eq (pointsTo_congr hrows)) $$ Hrow
  isplitl [Htok Htbl Hrow']
  · isplitl [Htok]; · iexact Htok
    isplitl [Htbl]; · iexact Htbl
    iexact Hrow'
  isplitl [Hs Hr Hbufs]
  · simp only [List.foldr_cons]
    isplitl [Hs]; · iexists _; iexact Hs
    isplitl [Hr]; · iexists _; iexact Hr
    iexact Hbufs
  isplitl [Ha Hb Hc Hsems]
  · simp only [List.foldr_cons]
    isplitl [Ha]; · iexact Ha
    isplitl [Hb]; · iexact Hb
    isplitl [Hc]; · iexact Hc
    iexact Hsems
  iexists _; isplitr
  swap; · iexact HO
  ipureintro
  intro p hp
  simp only [Finset.mem_insert] at hp
  rcases hp with rfl | rfl | rfl | hp
  exacts [.inr (.inl rfl), .inr (.inl rfl), .inr (.inl rfl), .inl hp]

end Task

end Cert.Proof.RunKernelIdeal

end
-- ==== Proof.KernelIdeal.Split.lean ====
/-
  What the lookup's call hands out and takes back: each core the pieces of its 16 tasks, each task its own piece, whose
  rows come back at `Gth`; and the three whole arrays as all the pieces at once.
-/
module

public import proofs.«01_k».proof.Proof.KernelIdeal.Tile

@[expose] public section

noncomputable section

namespace Cert.Proof.RunKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The pieces of core `c`'s 16 tasks, the rows at `f`. -/
abbrev corePieces (d : Dev nD) (f : Buf (Elt F) (oLoc d)) (c : Fin 2) : sProp 𝕄 := bigSep Finset.univ fun s : Fin 16 => piece m d f (c, s)

/-- The call's operands and results: a core takes the pieces of its tasks, a task takes its own; the rows come back at
    `Gth`. -/
def P : (K (F := F)).Pay (nD := nD) (Val := Elt F) (Name := ℕ) (U := UU) where
  st := fun q d c => match q with | 0 => corePieces m d (m (oLoc d)) (Fin.cast nCore_zero c)
  dn := fun q d c => match q with | 0 => corePieces m d (Gth m d) (Fin.cast nCore_zero c)
  go := fun q d c i => match q with | 0 => piece m d (m (oLoc d)) (Fin.cast nCore_zero c, Fin.cast nSub_zero i)
  td := fun q d c i => match q with | 0 => piece m d (Gth m d) (Fin.cast nCore_zero c, Fin.cast nSub_zero i)
  x := fun _ _ => iprop(emp)

instance P_storable : (P (F := F) m).IsStorable where
  st q d c := match q with
    | 0 => (inferInstance : BI.Storable (upEmb : UEmb _ 𝕄) (corePieces m d (m (oLoc d)) (Fin.cast nCore_zero c)))
  dn q d c := match q with
    | 0 => (inferInstance : BI.Storable (upEmb : UEmb _ 𝕄) (corePieces m d (Gth m d) (Fin.cast nCore_zero c)))
  go q d c i := match q with
    | 0 => (inferInstance : BI.Storable (upEmb : UEmb _ 𝕄) (piece m d (m (oLoc d)) (Fin.cast nCore_zero c, Fin.cast nSub_zero i)))
  td q d c i := match q with
    | 0 => (inferInstance : BI.Storable (upEmb : UEmb _ 𝕄) (piece m d (Gth m d) (Fin.cast nCore_zero c, Fin.cast nSub_zero i)))

/-- The core keeps nothing of its own: its pieces are its tasks' pieces, before and after. -/
theorem vecSplit : (K (F := F)).VecSplit' (P m) 0 := fun d c => by
  change corePieces m d _ (Fin.cast nCore_zero c) ⊢ iprop(|={Set.univ}=> (corePieces m d _ (Fin.cast nCore_zero c) ∗ (_ -∗ corePieces m d _ (Fin.cast nCore_zero c))))
  iintro Hpieces
  imodintro
  isplitl [Hpieces]
  · iexact Hpieces
  · iintro Hback; iexact Hback

/-! ## The three arrays as pieces -/

/-- A whole array is the elements of each task, where every element has one task. -/
theorem pts_deal {ℓ : Loc nD τ sig} (who : ℓ.ty.shape.Idx → Fin 2 × Fin 16) (f : Buf (Elt F) ℓ) :
    (ℓ ↦{fullShare} f : sProp 𝕄) = bigSep Finset.univ fun t => ℓ ↦[Finset.univ.filter fun x => who x = t]{fullShare} f := by
  rw [← pointsTo_biUnion Finset.univ fun t => Finset.univ.filter fun x => who x = t]
  · congr 1
    ext x
    simp
  · intro t _ t' _ hne
    refine Finset.disjoint_left.mpr fun x hx hx' => hne ?_
    exact (Finset.mem_filter.mp hx).2.symm.trans (Finset.mem_filter.mp hx').2

/-- The three whole arrays are the pieces of the two cores. -/
theorem arrays_deal (d : Dev nD) (f : Buf (Elt F) (oLoc d)) :
    (iprop((iLoc d ↦{fullShare} m (iLoc d)) ∗ (xLoc d ↦{fullShare} m (xLoc d)) ∗ (oLoc d ↦{fullShare} f)) : sProp 𝕄)
      = bigSep Finset.univ fun c : Fin 2 => corePieces m d f c := by
  rw [pts_deal (ℓ := iLoc d) (fun j : S2048.Idx => whoHas (j 0)), pts_deal (ℓ := oLoc d) (fun x : S2048x128.Idx => whoHas (x 0)),
    ShareLeaves.pointsTo_leaves Finset.univ (m (xLoc d)) 5 fullShare, bigSep_univ_equiv shareNo, ← bigSep_sep', ← bigSep_sep', bigSep_univ_prod]
  rfl

theorem st0_eq (d : Dev nD) : (bigSep Finset.univ fun c : Fin ((K (F := F)).nCore 0) => (P m).st 0 d c)
    = iprop((iLoc d ↦{fullShare} m (iLoc d)) ∗ (xLoc d ↦{fullShare} m (xLoc d)) ∗ (oLoc d ↦{fullShare} m (oLoc d))) :=
  (arrays_deal m d _).symm
theorem dn0_eq (d : Dev nD) : (bigSep Finset.univ fun c : Fin ((K (F := F)).nCore 0) => (P m).dn 0 d c)
    = iprop((iLoc d ↦{fullShare} m (iLoc d)) ∗ (xLoc d ↦{fullShare} m (xLoc d)) ∗ (oLoc d ↦{fullShare} (Gth m d : Buf (Elt F) (oLoc d)))) :=
  (arrays_deal m d _).symm

/-! ## The tasks' obligation -/

set_option maxRecDepth 16384 in
/-- Each task the call starts meets its part: the processor at core `c`, subcore `s` runs the task of that grid point. -/
theorem tileObl [FloatOps F] (hF : (K (F := F)).Facts) (hpre : PreOK m) : (K (F := F)).TileObl (D (F := F)) 𝒱 (P m) v₀ 0 := by
  intro d c s O W hO _ _
  have at_task := task_run m d (fun | 0 => c | 1 => s | ⟨_ + 2, h⟩ => absurd h (Nat.not_lt.2 (Nat.le_add_left _ _))) hF hpre O W hO
  have lifted := at_task.trans (Pipeline.wp_liftProg (D (F := F)) (Pipeline.defs_kernel pcfgs defs₀) 𝒱₀ _ Set.univ none _ _)
  have runs : defs₀ (F := F) (.scVector ((K (F := F)).core 0 c) ((K (F := F)).sub 0 s)) 0 () = _ :=
    dif_pos (show ((K (F := F)).core 0 c).val < grid0.bound 0 ∧ ((K (F := F)).sub 0 s).val < grid0.bound 1 from ⟨c.isLt, s.isLt⟩)
  rw [show (P m).ox = fun _ _ => 0 from rfl]
  simp only [add_zero]
  change _ ⊢ wp _ _ _ (Pipeline.liftProg (defs₀ (F := F) (.scVector ((K (F := F)).core 0 c) ((K (F := F)).sub 0 s)) 0 ())) _
  rw [runs]
  exact lifted

end Cert.Proof.RunKernelIdeal

end
-- ==== Proof.KernelIdeal.Body.lean ====
/-
  The dense kernel's body at one grid point, run once on symbolic buffers. At the first point it computes the hidden
  activations into the scratch buffer; at every point it multiplies the point's block of the output weights by them and adds
  the point's block of the bias.
-/
module

public import proofs.«01_k».proof.Proof.KernelIdeal.Tile
public import Idealize.ShloMosaic.Lib.VecWindow

@[expose] public section

noncomputable section

namespace Cert.Proof.RunKernelIdeal

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]

local notation "𝕄" => MT nD τ sig (HIx 1) (Elt F) ℕ UU ℕ

/-- The body's test for the first grid point. -/
abbrev atFirst (i : grid1.Coords) : Prop :=
  Scalar.cmpi .ne (Scalar.extui (Scalar.cmpi .eq (BitVec.ofNat 32 (i 0).val) 0#32) : BitVec 32) 0#32 = 1#1

section Triple

variable (c : Dev nD) (i : grid1.Coords)
  (a1 : Memref sig .tc .vmem S2048x128 .f32) (h1 : a1.IsWhole) (a2 : Memref sig .tc .vmem S128x128 .f32) (h2 : a2.IsWhole)
  (a3 : Memref sig .tc .vmem S1x128 .f32) (h3 : a3.IsWhole) (a4 : Memref sig .tc .vmem S128x128 .f32) (h4 : a4.IsWhole)
  (a5 : Memref sig .tc .vmem S128x1 .f32) (h5 : a5.IsWhole) (a6 : Memref sig .tc .vmem S2048x128 .f32) (h6 : a6.IsWhole)
  (a7 : Memref sig .tc .vmem S1x2048 .f32) (h7 : a7.IsWhole) (a8 : Memref sig .tc .vmem S2048x2048 .f32) (h8 : a8.IsWhole)
  (a9 : Memref sig .tc .vmem S128x2048 .f32) (h9 : a9.IsWhole)
  (X1 : Vec F S2048x128 .f32) (X2 : Vec F S128x128 .f32) (X3 : Vec F S1x128 .f32) (X4 : Vec F S128x128 .f32) (X5 : Vec F S128x1 .f32)
  (X6 : Vec F S2048x128 .f32) (X7 : Vec F S1x2048 .f32) (X8 : Vec F S2048x2048 .f32) (X9 : Vec F S128x2048 .f32)

/-- The eight windows' buffers and the scratch buffer, at given contents. -/
abbrev bufsAt (Y8 : Vec F S2048x2048 .f32) (Y9 : Vec F S128x2048 .f32) : sProp 𝕄 :=
  iprop(owns (c : Thread nD τ) a1 fullShare X1 ∗ owns (c : Thread nD τ) a2 fullShare X2 ∗ owns (c : Thread nD τ) a3 fullShare X3
    ∗ owns (c : Thread nD τ) a4 fullShare X4 ∗ owns (c : Thread nD τ) a5 fullShare X5 ∗ owns (c : Thread nD τ) a6 fullShare X6
    ∗ owns (c : Thread nD τ) a7 fullShare X7 ∗ owns (c : Thread nD τ) a8 fullShare Y8 ∗ owns (c : Thread nD τ) a9 fullShare Y9)

theorem body_later (hi : ¬ atFirst i) :
    bufsAt c a1 a2 a3 a4 a5 a6 a7 a8 a9 X1 X2 X3 X4 X5 X6 X7 X8 X9
      ⊢ wp frame (wpE (defs₀ (F := F)) 𝒱₀ c none) Set.univ
          (cc1__mlp_head_t_body i a1 h1 a2 h2 a3 h3 a4 h4 a5 h5 a6 h6 a7 h7 a8 h8 a9 h9)
          fun _ => bufsAt c a1 a2 a3 a4 a5 a6 a7 a8 a9 X1 X2 X3 X4 X5 X6 X7 (k1_pay2 X7 X6 X9) X9 := by
  simp only [cc1__mlp_head_t_body_eq_skeleton]; unfold cc1__mlp_head_t_body_skel
  simp only [dif_neg hi]
  unfold bufsAt owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  have l6 := (View.readAt_full a6.view f6 inb_S2048x128_S2048x128_0_0).trans e6
  have l7 := (View.readAt_full a7.view f7 inb_S1x2048_S1x2048_0_0).trans e7
  have l9 := (View.readAt_full a9.view f9 inb_S128x2048_S128x2048_0_0).trans e9
  sl_exec
  sl_step
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists _; isplitr; swap; · iexact H8
    ipureintro
    refine (View.read_writes_full a8.view f8 inb_S2048x2048_S2048x2048_0_0 _ []).trans ?_
    rfl
  iexists f9; isplitr; swap; · iexact H9
  ipureintro; exact e9

theorem body_first (hi : atFirst i) :
    bufsAt c a1 a2 a3 a4 a5 a6 a7 a8 a9 X1 X2 X3 X4 X5 X6 X7 X8 X9
      ⊢ wp frame (wpE (defs₀ (F := F)) 𝒱₀ c none) Set.univ
          (cc1__mlp_head_t_body i a1 h1 a2 h2 a3 h3 a4 h4 a5 h5 a6 h6 a7 h7 a8 h8 a9 h9)
          fun _ => bufsAt c a1 a2 a3 a4 a5 a6 a7 a8 a9 X1 X2 X3 X4 X5 X6 X7 (k1_pay2 X7 X6 (k1_pay1 X1 X2 X3 X4 X5)) (k1_pay1 X1 X2 X3 X4 X5) := by
  simp only [cc1__mlp_head_t_body_eq_skeleton]; unfold cc1__mlp_head_t_body_skel
  simp only [dif_pos hi]
  unfold bufsAt owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  have l1 := (View.readAt_full a1.view f1 inb_S2048x128_S2048x128_0_0).trans e1
  have l2 := (View.readAt_full a2.view f2 inb_S128x128_S128x128_0_0).trans e2
  have l3 := (View.readAt_full a3.view f3 inb_S1x128_S1x128_0_0).trans e3
  have l4 := (View.readAt_full a4.view f4 inb_S128x128_S128x128_0_0).trans e4
  have l5 := (View.readAt_full a5.view f5 inb_S128x1_S128x1_0_0).trans e5
  have l6 := (View.readAt_full a6.view f6 inb_S2048x128_S2048x128_0_0).trans e6
  have l7 := (View.readAt_full a7.view f7 inb_S1x2048_S1x2048_0_0).trans e7
  sl_exec
  sl_step
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists _; isplitr; swap; · iexact H8
    ipureintro
    refine (View.read_writes_full a8.view f8 inb_S2048x2048_S2048x2048_0_0 _ []).trans ?_
    exact congrArg (k1_pay2 X7 X6) (View.readAt_writes_full a9.view _ inb_S128x2048_S128x2048_0_0 inb_S128x2048_S128x2048_0_0 _ [])
  iexists _; isplitr; swap; · iexact H9
  ipureintro
  exact View.read_writes_full a9.view f9 inb_S128x2048_S128x2048_0_0 _ []

end Triple

end Cert.Proof.RunKernelIdeal

end
-- ==== Proof.KernelIdeal.Region.lean ====
/-
  The dense kernel's pipeline over its 25 blocks of the vocabulary. What is known between the points: the scratch buffer
  holds the hidden activations from the second point on; each input's buffer holds the block fetched into it, at anything
  past the array's end; what the body leaves in the output's buffer is the payload of such blocks.
-/
module

public import proofs.«01_k».proof.Proof.KernelIdeal.Body
public import proofs.«01_k».proof.Proof.Gen.KernelIdeal.Points
public import Idealize.ShloMosaic.Lib.Pipeline.FrameBody
public import Idealize.ShloMosaic.Lib.Pipeline.ArrRel
public import Idealize.ShloMosaic.Lib.Pipeline.RegionArrays

@[expose] public section

noncomputable section

namespace Cert.Proof.RunKernelIdeal

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]

local notation "𝕄" => MT nD τ sig (HIx 1) (Elt F) ℕ UU ℕ

variable (V : (c : Dev nD) → (b : Ref sig .tc) → Buf (Elt F) ((c : Thread nD τ).loc b))

/-- The hidden activations, transposed, from the arrays as the region finds them. -/
def HT (c : Dev nD) : Vec F S128x2048 .f32 := k1_pay1 (V c main_v0) (V c main_arg2) (V c main_v1) (V c main_arg4) (V c main_v2)

/-- What a buffer of window `w` holds once the fetch at point `t` has landed in it, if it held `d`. -/
def fet (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (V c (Pipeline.arrRef spec1 w)))

/-- The proof data of the pipeline on device `c`; `b` bounds the waits recorded before it. -/
def rdat (b : ℕ) (c : Dev nD) : Pipeline.RDat τ (Elt F) (HIx 1) ℕ UU ℕ cfg1 c where
  A w := V c (Pipeline.arrRef spec1 w)
  after := fun
    | 7 => fun t _ X => ∃ d5 d6, X = k1_pay2 (fet V c 6 t d6) (fet V c 5 t d5) (HT V c)
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | ⟨_ + 8, h⟩ => absurd h (Nat.not_lt.2 (Nat.le_add_left _ _))
  Φ t := if t.val = 0 then iprop(∃ f, owns (c : Thread nD τ) (Memref.whole cc1_scratch0) fullShare f)
    else iprop(owns (c : Thread nD τ) (Memref.whole cc1_scratch0) fullShare (HT V c))
  q _ := fullShare
  owed _ := 0
  recorded _ := {p | (K (F := F)).lev (N := 1) ((c : Thread nD τ), p.1) p.2 ≤ b}

variable (b : ℕ) (c : Dev nD)

theorem rdat_fetched (w : Fin cfg1.W) (t : Fin cfg1.N) (d) : (rdat V b c).fetched w t d = fet V c w t d := rfl

/-- Window 0 stages its whole array, at every point. -/
theorem fet_0 (t : Fin cfg1.N) (d) : fet V c 0 t d = V c main_v0 := by
  funext j
  exact congrArg (V c main_v0) (funext fun a => Fin.ext (by
    match a with
    | 0 => show 0 * _ + 1 * (j 0).val = (j 0).val; omega
    | 1 => show 0 * _ + 1 * (j 1).val = (j 1).val; omega))
/-- Window 1 stages its whole array, at every point. -/
theorem fet_1 (t : Fin cfg1.N) (d) : fet V c 1 t d = V c main_arg2 := by
  funext j
  exact congrArg (V c main_arg2) (funext fun a => Fin.ext (by
    match a with
    | 0 => show 0 * _ + 1 * (j 0).val = (j 0).val; omega
    | 1 => show 0 * _ + 1 * (j 1).val = (j 1).val; omega))
/-- Window 2 stages its whole array, at every point. -/
theorem fet_2 (t : Fin cfg1.N) (d) : fet V c 2 t d = V c main_v1 := by
  funext j
  exact congrArg (V c main_v1) (funext fun a => Fin.ext (by
    match a with
    | 0 => show 0 * _ + 1 * (j 0).val = (j 0).val; omega
    | 1 => show 0 * _ + 1 * (j 1).val = (j 1).val; omega))
/-- Window 3 stages its whole array, at every point. -/
theorem fet_3 (t : Fin cfg1.N) (d) : fet V c 3 t d = V c main_arg4 := by
  funext j
  exact congrArg (V c main_arg4) (funext fun a => Fin.ext (by
    match a with
    | 0 => show 0 * _ + 1 * (j 0).val = (j 0).val; omega
    | 1 => show 0 * _ + 1 * (j 1).val = (j 1).val; omega))
/-- Window 4 stages its whole array, at every point. -/
theorem fet_4 (t : Fin cfg1.N) (d) : fet V c 4 t d = V c main_v2 := by
  funext j
  exact congrArg (V c main_v2) (funext fun a => Fin.ext (by
    match a with
    | 0 => show 0 * _ + 1 * (j 0).val = (j 0).val; omega
    | 1 => show 0 * _ + 1 * (j 1).val = (j 1).val; omega))

section Finds

variable [∀ e, Nonempty (Elt F e)]

theorem finds_0 (t : Fin cfg1.N) (Y) (h : (rdat V b c).Finds 0 t Y) : Y = V c main_v0 := by
  obtain ⟨d, rfl⟩ := (rdat V b c).finds_in_eq_fetched 0 rfl (fun _ _ _ => rfl) (fun _ _ _ h => h) t Y h
  exact fet_0 V c t d
theorem finds_1 (t : Fin cfg1.N) (Y) (h : (rdat V b c).Finds 1 t Y) : Y = V c main_arg2 := by
  obtain ⟨d, rfl⟩ := (rdat V b c).finds_in_eq_fetched 1 rfl (fun _ _ _ => rfl) (fun _ _ _ h => h) t Y h
  exact fet_1 V c t d
theorem finds_2 (t : Fin cfg1.N) (Y) (h : (rdat V b c).Finds 2 t Y) : Y = V c main_v1 := by
  obtain ⟨d, rfl⟩ := (rdat V b c).finds_in_eq_fetched 2 rfl (fun _ _ _ => rfl) (fun _ _ _ h => h) t Y h
  exact fet_2 V c t d
theorem finds_3 (t : Fin cfg1.N) (Y) (h : (rdat V b c).Finds 3 t Y) : Y = V c main_arg4 := by
  obtain ⟨d, rfl⟩ := (rdat V b c).finds_in_eq_fetched 3 rfl (fun _ _ _ => rfl) (fun _ _ _ h => h) t Y h
  exact fet_3 V c t d
theorem finds_4 (t : Fin cfg1.N) (Y) (h : (rdat V b c).Finds 4 t Y) : Y = V c main_v2 := by
  obtain ⟨d, rfl⟩ := (rdat V b c).finds_in_eq_fetched 4 rfl (fun _ _ _ => rfl) (fun _ _ _ h => h) t Y h
  exact fet_4 V c t d
theorem finds_5 (t : Fin cfg1.N) (Y) (h : (rdat V b c).Finds 5 t Y) : ∃ d, Y = fet V c 5 t d :=
  ((rdat V b c).finds_of_fetch (fetch1_5 t) Y).mp h
theorem finds_6 (t : Fin cfg1.N) (Y) (h : (rdat V b c).Finds 6 t Y) : ∃ d, Y = fet V c 6 t d :=
  ((rdat V b c).finds_of_fetch (fetch1_6 t) Y).mp h

end Finds

/-! ## The body at a point -/

theorem atFirst_iff : ∀ t : Fin cfg1.N, atFirst (grid1.coords t) ↔ t.val = 0 := by
  decide +kernel

section Obligation

variable [∀ e, Nonempty (Elt F e)]

theorem Φ_zero (t : Fin (cfg1.N + 1)) (h : t.val = 0) :
    (rdat V b c).Φ t = iprop(∃ f, owns (c : Thread nD τ) (Memref.whole cc1_scratch0) fullShare f) := if_pos h
theorem Φ_pos (t : Fin (cfg1.N + 1)) (h : t.val ≠ 0) :
    (rdat V b c).Φ t = iprop(owns (c : Thread nD τ) (Memref.whole cc1_scratch0) fullShare (HT V c)) := if_neg h

/-- The eight current buffers and the scratch buffer after the body at point `t`. -/
theorem leaves_of (t : Fin cfg1.N) (Y : (w : Fin cfg1.W) → (cfg1.win w).block.Idx → Elt F (cfg1.win w).elt)
    (hY : ∀ w, (rdat V b c).Finds w t (Y w)) :
    iprop((rdat V b c).owesAt none t.castSucc
        ∗ bufsAt c (st1_0 t) (st1_1 t) (st1_2 t) (st1_3 t) (st1_4 t) (st1_5 t) (st1_6 t) (st1_7 t) (Memref.whole cc1_scratch0)
            (Y 0) (Y 1) (Y 2) (Y 3) (Y 4) (Y 5) (Y 6) (k1_pay2 (Y 6) (Y 5) (HT V c)) (HT V c))
      ⊢ iprop((rdat V b c).Φ t.succ ∗ (rdat V b c).owesAt none t.succ
          ∗ bigSep Finset.univ fun w : Fin cfg1.W => iprop(∃ X, ⌜(rdat V b c).after w t (Y w) X⌝ ∗ owns (c : Thread nD τ) ((cfg1.win w).stage (cfg1.slots t w)) fullShare X)) := by
  obtain ⟨d5, e5⟩ := finds_5 V b c t (Y 5) (hY 5)
  obtain ⟨d6, e6⟩ := finds_6 V b c t (Y 6) (hY 6)
  rw [Φ_pos V b c t.succ (by simp)]
  rw [show ∀ Ψ : Fin cfg1.W → sProp 𝕄, bigSep Finset.univ Ψ = _ from fun Ψ => bigSep_W1 Ψ]
  iintro ⟨HO, H1, H2, H3, H4, H5, H6, H7, H8, H9⟩
  isplitl [H9]; · iexact H9
  isplitl [HO]; · iexact HO
  isplitl [H1]
  · iexists (Y 0); isplitr; swap; · iexact H1
    ipureintro; rfl
  isplitl [H2]
  · iexists (Y 1); isplitr; swap; · iexact H2
    ipureintro; rfl
  isplitl [H3]
  · iexists (Y 2); isplitr; swap; · iexact H3
    ipureintro; rfl
  isplitl [H4]
  · iexists (Y 3); isplitr; swap; · iexact H4
    ipureintro; rfl
  isplitl [H5]
  · iexists (Y 4); isplitr; swap; · iexact H5
    ipureintro; rfl
  isplitl [H6]
  · iexists (Y 5); isplitr; swap; · iexact H6
    ipureintro; rfl
  isplitl [H7]
  · iexists (Y 6); isplitr; swap; · iexact H7
    ipureintro; rfl
  iexists _; isplitr; swap; · iexact H8
  ipureintro
  exact ⟨d5, d6, by rw [e5, e6]⟩

theorem body_obl : (rdat V b c).BodyObligation (defs₀ (F := F)) 𝒱₀ none Set.univ := by
  intro t Y hY
  rw [show ∀ Ψ : Fin cfg1.W → sProp 𝕄, bigSep Finset.univ Ψ = _ from fun Ψ => bigSep_W1 Ψ]
  change _ ⊢ wp frame (wpE (defs₀ (F := F)) 𝒱₀ c none) Set.univ (bodyAt1 t) _
  by_cases ht : t.val = 0
  · have hp : k1_pay1 (Y 0) (Y 1) (Y 2) (Y 3) (Y 4) = HT V c := by
      rw [finds_0 V b c t _ (hY 0), finds_1 V b c t _ (hY 1), finds_2 V b c t _ (hY 2), finds_3 V b c t _ (hY 3), finds_4 V b c t _ (hY 4)]; rfl
    rw [Φ_zero V b c t.castSucc ht]
    refine BI.Entails.trans ?_ (wp_mono frame _ _ fun _ => leaves_of V b c t Y hY)
    refine BI.Entails.trans ?_ (wp_frame_l frame _ _)
    change (_ : sProp 𝕄) ⊢ _
    iintro ⟨⟨%f, H9⟩, HO, H1, H2, H3, H4, H5, H6, H7, H8⟩
    isplitl [HO]; · iexact HO
    have key := body_first (F := F) c (grid1.coords t) (st1_0 t) (hstage1_0 _) (st1_1 t) (hstage1_1 _) (st1_2 t) (hstage1_2 _) (st1_3 t) (hstage1_3 _) (st1_4 t) (hstage1_4 _)
      (st1_5 t) (hstage1_5 _) (st1_6 t) (hstage1_6 _) (st1_7 t) (hstage1_7 _) (Memref.whole cc1_scratch0) (Memref.isWhole_whole _)
      (Y 0) (Y 1) (Y 2) (Y 3) (Y 4) (Y 5) (Y 6) (Y 7) f ((atFirst_iff t).mpr ht)
    rw [hp] at key
    iapply key
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Φ_pos V b c t.castSucc ht]
    refine BI.Entails.trans ?_ (wp_mono frame _ _ fun _ => leaves_of V b c t Y hY)
    refine BI.Entails.trans ?_ (wp_frame_l frame _ _)
    change (_ : sProp 𝕄) ⊢ _
    iintro ⟨H9, HO, H1, H2, H3, H4, H5, H6, H7, H8⟩
    isplitl [HO]; · iexact HO
    have key := body_later (F := F) c (grid1.coords t) (st1_0 t) (hstage1_0 _) (st1_1 t) (hstage1_1 _) (st1_2 t) (hstage1_2 _) (st1_3 t) (hstage1_3 _) (st1_4 t) (hstage1_4 _)
      (st1_5 t) (hstage1_5 _) (st1_6 t) (hstage1_6 _) (st1_7 t) (hstage1_7 _) (Memref.whole cc1_scratch0) (Memref.isWhole_whole _)
      (Y 0) (Y 1) (Y 2) (Y 3) (Y 4) (Y 5) (Y 6) (Y 7) (HT V c) (fun h => ht ((atFirst_iff t).mp h))
    iapply key
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Obligation

end Cert.Proof.RunKernelIdeal

end
-- ==== Proof.KernelIdeal.Seg.lean ====
/-
  The dense kernel's region of the host program: entered with the device's buffers at `V`, it leaves the windows' arrays at
  contents the write-backs of the 25 points allow, and every other buffer as it was.
-/
module

public import proofs.«01_k».proof.Proof.KernelIdeal.Region

@[expose] public section

noncomputable section

namespace Cert.Proof.RunKernelIdeal

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]

local notation "𝕄" => MT nD τ sig (HIx 1) (Elt F) ℕ UU ℕ

variable (V : (c : Dev nD) → (b : Ref sig .tc) → Buf (Elt F) ((c : Thread nD τ).loc b)) (b : ℕ)

/-- The one pipeline has no prefetched table. -/
abbrev adm : (p : Fin 1) → (pcfgs (F := F) p).Adm := fun p => (cfgs p).toPCfg_adm

/-- The pipeline's proof data, by pipeline. -/
def rdats : (p : Fin 1) → (c : Dev nD) → Pipeline.RDat τ (Elt F) (HIx 1) ℕ UU ℕ (Pipeline.pin (pcfgs (F := F)) adm p) c
  | 0 => rdat V b

/-- What a device owes around the region: nothing, the waits recorded bounded by `b`. -/
def owesBelow (c : Dev nD) : sProp 𝕄 :=
  iprop(∃ W, ⌜(K (F := F)).WBelow (c : Thread nD τ) W b⌝ ∗ owes (c : Thread nD τ) (0 : CellTallies nD τ sig (HIx 1)) W)

theorem owesAt_of_below (c : Dev nD) (t : Fin (cfg1.N + 1)) : (owesBelow b c : sProp 𝕄) ⊢ (rdat V b c).owesAt none t := by
  unfold owesBelow Pipeline.RDat.owesAt Pipeline.owesWithin
  iintro ⟨%W, %hW, HO⟩
  iexists W
  isplitr; swap; · iexact HO
  ipureintro; exact fun p hp => Or.inl (hW p hp)

theorem below_of_owesAt (c : Dev nD) (t : Fin (cfg1.N + 1)) : ((rdat V b c).owesAt none t : sProp 𝕄) ⊢ owesBelow b c := by
  unfold owesBelow Pipeline.RDat.owesAt Pipeline.owesWithin
  iintro ⟨%W, %hW, HO⟩
  iexists W
  isplitr; swap; · iexact HO
  ipureintro
  intro p hp
  rcases hW hp with h | ⟨w, s, rfl⟩
  · exact h
  · exact Nat.zero_le _

variable [∀ e, Nonempty (Elt F e)]

/-- The region. -/
def regSeg : Pipeline.RDat.RegionSeg (pcfgs (F := F)) adm (rdats V b) (none : HIx 1) defs₀ 𝒱₀
    ((K (F := F)).L) ((K (F := F)).lev) 0 where
  win := launch1.win.to₀
  block_pos := block_pos1
  stage_whole := stage_whole1
  K := PEmpty
  osem k := k.elim
  ho := Pipeline.OwnSemFacts.none _
  hbody c := body_obl V b c
  hwaits c := Pipeline.RDat.hwaits_of_owed_zero _ _ _ _ _ _ 0 (fun _ _ => rfl) c
  pre c := iprop(owesBelow b c ∗ unscopedBufs c (V c))
  post c := iprop(owesBelow b c ∗ (rdat V b c).arraysAt cfg1.N ∗ Pipeline.unscopedRest spec1 c (V c))
  X _ := BI.emp
  Y _ := BI.emp
  Z c := Pipeline.unscopedRest spec1 c (V c)
  hentry c := by
    have harr := Pipeline.RDat.arrays_of_unscopedBufs (pcfgs (F := F)) adm (rdats V b) (p := 0) launch1.win arr_whole1 c (fun w => by fin_cases w <;> rfl) (V c) (fun w => rfl)
    rw [Pipeline.ownSems0_none, Pipeline.prefHeld_of_none _ rfl]
    iintro ⟨⟨HO, HB⟩, -, -⟩
    ihave HB' := harr $$ HB
    icases HB' with ⟨HA, HR⟩
    imodintro
    isplitl [HA]; · iexact HA
    isplitr; · iempintro
    isplitl [HO]; · iapply (owesAt_of_below V b c 0); iexact HO
    isplitr; · iempintro
    iexact HR
  hin c := by
    rw [show (rdats V b 0 c).Φ 0 = iprop(∃ f, owns (c : Thread nD τ) (Memref.whole cc1_scratch0) fullShare f) from Φ_zero V b c 0 rfl]
    rw [show (Pipeline.scopedRest (Ix := HIx 1) (Name := ℕ) (U := UU) (Lvl := ℕ) (Val := Elt F) (Pipeline.pin (pcfgs (F := F)) adm 0).spec c : sProp 𝕄) = _ from scopedRest1_eq c]
    iintro ⟨-, -, ⟨%f, H⟩⟩
    iexists f
    rw [owns_whole]
    iexact H
  hout c := by
    rw [show (rdats V b 0 c).Φ (Fin.last _) = owns (c : Thread nD τ) (Memref.whole cc1_scratch0) fullShare (HT V c) from Φ_pos V b c (Fin.last _) (by rw [Fin.val_last]; decide)]
    rw [show (Pipeline.scopedRest (Ix := HIx 1) (Name := ℕ) (U := UU) (Lvl := ℕ) (Val := Elt F) (Pipeline.pin (pcfgs (F := F)) adm 0).spec c : sProp 𝕄) = _ from scopedRest1_eq c,
      Pipeline.ownSems0_none, owns_whole]
    iintro H
    isplitr; · iempintro
    isplitr; · iempintro
    iexists _
    iexact H
  hexit c := by
    iintro ⟨HA, HO, -, HZ⟩
    imodintro
    isplitl [HO]; · iapply (below_of_owesAt V b c (Fin.last _)); iexact HO
    isplitl [HA]; · iexact HA
    iexact HZ

end Cert.Proof.RunKernelIdeal

end
-- ==== Proof.KernelIdeal.Run.lean ====
/-
  The whole program: the lookup on the SparseCore's tiles, four re-layouts on the host, the dense kernel's region, and the
  final transposition. The run ends with every argument as at the launch and with the result the transposition of contents
  the region's write-backs allow.
-/
module

public import proofs.«01_k».proof.Proof.KernelIdeal.Split
public import proofs.«01_k».proof.Proof.KernelIdeal.Seg
public import Idealize.ShloMosaic.Lib.Pipeline.Frame

@[expose] public section

noncomputable section

namespace Cert.Proof.RunKernelIdeal

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The device's buffers through the host operations -/

abbrev r (b : Ref sig .tc) : DevRef τ sig := Proc.devRef .tc b

def op1 : HloOp τ sig (Elt F) := StableHlo.unary main_arg3 main_v1 (broadcastInDim S1x128 ![1] bcast_S128_S1x128_1 : (⟨S128, .f32⟩ : BufTy).Contents (Elt F) → (⟨S1x128, .f32⟩ : BufTy).Contents (Elt F))
def op2 : HloOp τ sig (Elt F) := StableHlo.unary main_arg5 main_v2 (broadcastInDim S128x1 ![0] bcast_S128_S128x1_0 : (⟨S128, .f32⟩ : BufTy).Contents (Elt F) → (⟨S128x1, .f32⟩ : BufTy).Contents (Elt F))
def op3 : HloOp τ sig (Elt F) := StableHlo.unary main_arg6 main_v3 ((transpose S50257x128 [1, 0] · transposes_S128x50257_S50257x128_1_0) : (⟨S128x50257, .f32⟩ : BufTy).Contents (Elt F) → (⟨S50257x128, .f32⟩ : BufTy).Contents (Elt F))
def op4 : HloOp τ sig (Elt F) := StableHlo.unary main_arg7 main_v4 (broadcastInDim S1x50257 ![1] bcast_S50257_S1x50257_1 : (⟨S50257, .f32⟩ : BufTy).Contents (Elt F) → (⟨S1x50257, .f32⟩ : BufTy).Contents (Elt F))
def op5 : HloOp τ sig (Elt F) := StableHlo.unary main_v5 main_v6 ((transpose S2048x50257 [1, 0] · transposes_S50257x2048_S2048x50257_1_0) : (⟨S50257x2048, .f32⟩ : BufTy).Contents (Elt F) → (⟨S2048x50257, .f32⟩ : BufTy).Contents (Elt F))

/-- At the launch, after the lookup, and after the four re-layouts. -/
def W0 (d : Dev nD) : Valuation τ sig (Elt F) := fun b => m (d, b)
def W1 (d : Dev nD) : Valuation τ sig (Elt F) := Function.update (W0 m d) (r main_v0) (Gth m d)
def W2 (d : Dev nD) : Valuation τ sig (Elt F) := (op4 (F := F)).result ((op3 (F := F)).result ((op2 (F := F)).result ((op1 (F := F)).result (W1 m d))))
/-- What the region finds. -/
def VR (d : Dev nD) (b : Ref sig .tc) : Buf (Elt F) ((d : Thread nD τ).loc b) := W2 m d (r b)

theorem W2_of_ne (d : Dev nD) (b : Ref sig .tc) (h1 : b ≠ main_v1) (h2 : b ≠ main_v2) (h3 : b ≠ main_v3) (h4 : b ≠ main_v4) :
    W2 m d (r b) = W1 m d (r b) := by
  unfold W2 op1 op2 op3 op4
  rw [StableHlo.unary_result_ne _ _ _ _ _ _ h4, StableHlo.unary_result_ne _ _ _ _ _ _ h3, StableHlo.unary_result_ne _ _ _ _ _ _ h2, StableHlo.unary_result_ne _ _ _ _ _ _ h1]

theorem W1_of_ne (d : Dev nD) (b : Ref sig .tc) (h : b ≠ main_v0) : W1 m d (r b) = m ((d : Thread nD τ).loc b) := by
  unfold W1
  rw [Function.update_of_ne (StableHlo.devRef_ne_of_ne h)]
  rfl

theorem VR_keep (d : Dev nD) (b : Ref sig .tc) (h0 : b ≠ main_v0) (h1 : b ≠ main_v1) (h2 : b ≠ main_v2) (h3 : b ≠ main_v3) (h4 : b ≠ main_v4) :
    VR m d b = m ((d : Thread nD τ).loc b) := (W2_of_ne m d b h1 h2 h3 h4).trans (W1_of_ne m d b h0)

theorem VR_v0 (d : Dev nD) : VR m d main_v0 = Gth m d :=
  (W2_of_ne m d main_v0 (by decide) (by decide) (by decide) (by decide)).trans (Function.update_self _ _ _)

theorem VR_v1 (d : Dev nD) : VR m d main_v1 = broadcastInDim S1x128 ![1] bcast_S128_S1x128_1 (m ((d : Thread nD τ).loc main_arg3) : S128.Idx → Elt F .f32) := by
  unfold VR W2 op1 op2 op3 op4
  rw [StableHlo.unary_result_ne _ _ _ _ _ _ (by decide), StableHlo.unary_result_ne _ _ _ _ _ _ (by decide), StableHlo.unary_result_ne _ _ _ _ _ _ (by decide), StableHlo.unary_result,
    W1_of_ne m d main_arg3 (by decide)]
theorem VR_v2 (d : Dev nD) : VR m d main_v2 = broadcastInDim S128x1 ![0] bcast_S128_S128x1_0 (m ((d : Thread nD τ).loc main_arg5) : S128.Idx → Elt F .f32) := by
  unfold VR W2 op1 op2 op3 op4
  rw [StableHlo.unary_result_ne _ _ _ _ _ _ (by decide), StableHlo.unary_result_ne _ _ _ _ _ _ (by decide), StableHlo.unary_result, StableHlo.unary_result_ne _ _ _ _ _ _ (by decide),
    W1_of_ne m d main_arg5 (by decide)]
theorem VR_v3 (d : Dev nD) : VR m d main_v3 = transpose S50257x128 [1, 0] (m ((d : Thread nD τ).loc main_arg6) : S128x50257.Idx → Elt F .f32) transposes_S128x50257_S50257x128_1_0 := by
  unfold VR W2 op1 op2 op3 op4
  rw [StableHlo.unary_result_ne _ _ _ _ _ _ (by decide), StableHlo.unary_result, StableHlo.unary_result_ne _ _ _ _ _ _ (by decide), StableHlo.unary_result_ne _ _ _ _ _ _ (by decide),
    W1_of_ne m d main_arg6 (by decide)]
theorem VR_v4 (d : Dev nD) : VR m d main_v4 = broadcastInDim S1x50257 ![1] bcast_S50257_S1x50257_1 (m ((d : Thread nD τ).loc main_arg7) : S50257.Idx → Elt F .f32) := by
  unfold VR W2 op1 op2 op3 op4
  rw [StableHlo.unary_result, StableHlo.unary_result_ne _ _ _ _ _ _ (by decide), StableHlo.unary_result_ne _ _ _ _ _ _ (by decide), StableHlo.unary_result_ne _ _ _ _ _ _ (by decide),
    W1_of_ne m d main_arg7 (by decide)]

/-! ## The launch element -/

/-- The pipeline's rounds, inside the right half of the ghost state. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

def u₀ : UU := (initOf (K (F := F)).hsCells (K (F := F)).hsToks, (initOf (Pipeline.cells cfgs cellOf_inj) (Pipeline.launchToks cfgs cellOf_inj), 1))

/-- What the launch deals a device for the region. -/
def G (d : Dev nD) : sProp 𝕄 := iprop(Pipeline.cellsGhost cfgs EP 0 d ∗ Pipeline.toksInit cfgs EP 0 d)

theorem bigSep_emp {ι : Type} (s : Finset ι) : (bigSep s fun _ => iprop(emp)) = (BI.emp : sProp 𝕄) := by
  classical
  induction s using Finset.induction_on with
  | empty => exact bigSep_empty
  | insert a s ha ih => rw [SparseCore.bigSep_insert' ha, ih]; exact emp_sep_eq _

theorem hu₀ : (ownU (u₀ (F := F)) : sProp 𝕄)
    ⊢ |={Set.univ}=> iprop(BI.own (EH (initOf (K (F := F)).hsCells (K (F := F)).hsToks)) ∗ (bigSep Finset.univ fun d : Dev nD => (G d : sProp 𝕄))
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave H := (show (BI.own ((embR : Emb (UP × Counters) 𝕄) (initOf (Pipeline.cells cfgs cellOf_inj) (Pipeline.launchToks cfgs cellOf_inj), (1 : Counters))) : sProp 𝕄)
      ⊢ iprop(BI.own ((EP : Emb UP 𝕄) (initOf (Pipeline.cells cfgs cellOf_inj) (Pipeline.launchToks cfgs cellOf_inj))) ∗ BI.own (((Emb.inr : Emb Counters (UP × Counters)).trans embR) (1 : Counters)))
    from own_pair_emb (embR : Emb (UP × Counters) 𝕄) _ _) $$ HR
  icases H with ⟨HP, -⟩
  imod (Pipeline.fund_ghost cfgs (EP : Emb UP 𝕄) cellOf_inj) $$ HP with ⟨Hg, Ht⟩
  imodintro
  isplitl [HH]; · iexact HH
  isplitl [Hg Ht]
  · unfold G
    rw [bigSep_univ_of_subsingleton (0 : Dev nD), bigSep_univ_of_subsingleton (0 : Dev nD), bigSep_univ_of_subsingleton (0 : Dev nD), bigSep_univ_of_subsingleton (0 : Fin 1), bigSep_univ_of_subsingleton (0 : Fin 1)]
    exact .rfl
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp]
  iempintro

/-! ## The program on the TensorCore -/

/-- The buffers the lookup works on. -/
def lookupRefs : Finset (DevRef τ sig) := {r main_arg0, r main_arg1, r main_v0}

theorem lookupRefs_sub : lookupRefs ⊆ Pipeline.ucRefs τ sig := by decide

theorem held_lookup (d : Dev nD) (W : Valuation τ sig (Elt F)) :
    (StableHlo.held (T d) lookupRefs W : sProp 𝕄)
      = iprop((iLoc d ↦{fullShare} W (r main_arg0)) ∗ (xLoc d ↦{fullShare} W (r main_arg1)) ∗ oLoc d ↦{fullShare} W (r main_v0)) := by
  unfold StableHlo.held lookupRefs
  rw [SparseCore.bigSep_insert' (by decide), SparseCore.bigSep_insert' (by decide), bigSep_singleton]

/-- The other buffers are not the lookup's. -/
theorem held_others (d : Dev nD) :
    (StableHlo.held (T d) (Pipeline.ucRefs τ sig \ lookupRefs) (W0 m d) : sProp 𝕄) = StableHlo.held (T d) (Pipeline.ucRefs τ sig \ lookupRefs) (W1 m d) := by
  unfold StableHlo.held
  refine bigSep_congr fun b hb => ?_
  have : b ≠ r main_v0 := fun e => (Finset.mem_sdiff.mp hb).2 (by rw [e]; decide)
  unfold W1
  rw [Function.update_of_ne this]

/-- The result and the array it is the transposition of. -/
def lastRefs : Finset (DevRef τ sig) := {r main_v5, r main_v6}
theorem held_last (d : Dev nD) (W : Valuation τ sig (Elt F)) :
    (StableHlo.held (T d) lastRefs W : sProp 𝕄)
      = iprop(((d : Thread nD τ).loc main_v5 ↦{fullShare} W (r main_v5)) ∗ ((d : Thread nD τ).loc main_v6 ↦{fullShare} W (r main_v6))) := by
  unfold StableHlo.held lastRefs
  rw [SparseCore.bigSep_insert' (by decide), bigSep_singleton]

/-- What a dense product's array may hold after the region. -/
def OutOK (d : Dev nD) (X : Buf (Elt F) ((d : Thread nD τ).loc main_v5)) : Prop := (rdat (VR m) 8 d).ArrAt 7 cfg1.N X

/-- The transposition that makes the result. -/
def flip (X : S50257x2048.Idx → Elt F .f32) : S2048x50257.Idx → Elt F .f32 :=
  transpose S2048x50257 [1, 0] X transposes_S50257x2048_S2048x50257_1_0

/-- What the program leaves: the arguments as at the launch, the result the transposition of contents the region allows. -/
def FIN (d : Dev nD) : sProp 𝕄 :=
  iprop(((d : Thread nD τ).loc main_arg0 ↦{fullShare} m ((d : Thread nD τ).loc main_arg0))
    ∗ ((d : Thread nD τ).loc main_arg1 ↦{fullShare} m ((d : Thread nD τ).loc main_arg1))
    ∗ ((d : Thread nD τ).loc main_arg2 ↦{fullShare} m ((d : Thread nD τ).loc main_arg2))
    ∗ ((d : Thread nD τ).loc main_arg3 ↦{fullShare} m ((d : Thread nD τ).loc main_arg3))
    ∗ ((d : Thread nD τ).loc main_arg4 ↦{fullShare} m ((d : Thread nD τ).loc main_arg4))
    ∗ ((d : Thread nD τ).loc main_arg5 ↦{fullShare} m ((d : Thread nD τ).loc main_arg5))
    ∗ ((d : Thread nD τ).loc main_arg6 ↦{fullShare} m ((d : Thread nD τ).loc main_arg6))
    ∗ ((d : Thread nD τ).loc main_arg7 ↦{fullShare} m ((d : Thread nD τ).loc main_arg7))
    ∗ ∃ X, ⌜OutOK m d X⌝ ∗ ((d : Thread nD τ).loc main_v6 ↦{fullShare} (flip X : Buf (Elt F) ((d : Thread nD τ).loc main_v6))))

/-- An array the region only reads is as the region found it. -/
theorem arr_in (d : Dev nD) (w : Fin cfg1.W) (hin : (cfg1.win w).isOut = false) (X) (h : (rdat (VR m) 8 d).ArrAt w cfg1.N X) :
    X = VR m d (Pipeline.arrRef spec1 w) := by
  rw [(rdat (VR m) 8 d).ArrAt_in w hin] at h
  exact h

/-- What the region leaves of the arrays that matter after it. -/
theorem arrays_after (d : Dev nD) :
    ((rdat (VR m) 8 d).arraysAt cfg1.N : sProp 𝕄)
      ⊢ iprop(((d : Thread nD τ).loc main_arg2 ↦{fullShare} m ((d : Thread nD τ).loc main_arg2))
        ∗ ((d : Thread nD τ).loc main_arg4 ↦{fullShare} m ((d : Thread nD τ).loc main_arg4))
        ∗ ∃ X, ⌜OutOK m d X⌝ ∗ ((d : Thread nD τ).loc main_v5 ↦{fullShare} X)) := by
  unfold Pipeline.RDat.arraysAt
  rw [show ∀ Ψ : Fin cfg1.W → sProp 𝕄, bigSep Finset.univ Ψ = _ from fun Ψ => bigSep_W1 Ψ]
  iintro ⟨-, ⟨%X1, %h1, H1⟩, -, ⟨%X3, %h3, H3⟩, -, -, -, ⟨%X7, %h7, H7⟩⟩
  have e1 : X1 = m ((d : Thread nD τ).loc main_arg2) := (arr_in m d 1 rfl X1 h1).trans (VR_keep m d main_arg2 (by decide) (by decide) (by decide) (by decide) (by decide))
  have e3 : X3 = m ((d : Thread nD τ).loc main_arg4) := (arr_in m d 3 rfl X3 h3).trans (VR_keep m d main_arg4 (by decide) (by decide) (by decide) (by decide) (by decide))
  subst e1 e3
  rw [(arr_whole1 1).set_eq_univ, (arr_whole1 3).set_eq_univ, (arr_whole1 7).set_eq_univ]
  isplitl [H1]; · iexact H1
  isplitl [H3]; · iexact H3
  iexists X7
  isplitr; swap; · iexact H7
  ipureintro; exact h7

/-- The buffers the region does not touch. -/
theorem rest_after (d : Dev nD) :
    (Pipeline.unscopedRest spec1 d (VR m d) : sProp 𝕄)
      ⊢ iprop(((d : Thread nD τ).loc main_arg0 ↦{fullShare} m ((d : Thread nD τ).loc main_arg0)) ∗ ((d : Thread nD τ).loc main_arg1 ↦{fullShare} m ((d : Thread nD τ).loc main_arg1)) ∗ ((d : Thread nD τ).loc main_arg3 ↦{fullShare} m ((d : Thread nD τ).loc main_arg3)) ∗ ((d : Thread nD τ).loc main_arg5 ↦{fullShare} m ((d : Thread nD τ).loc main_arg5)) ∗ ((d : Thread nD τ).loc main_arg6 ↦{fullShare} m ((d : Thread nD τ).loc main_arg6)) ∗ ((d : Thread nD τ).loc main_arg7 ↦{fullShare} m ((d : Thread nD τ).loc main_arg7)) ∗ ((d : Thread nD τ).loc main_v6 ↦{fullShare} VR m d main_v6)) := by
  have k0 := VR_keep m d main_arg0 (by decide) (by decide) (by decide) (by decide) (by decide)
  have k1 := VR_keep m d main_arg1 (by decide) (by decide) (by decide) (by decide) (by decide)
  have k3 := VR_keep m d main_arg3 (by decide) (by decide) (by decide) (by decide) (by decide)
  have k5 := VR_keep m d main_arg5 (by decide) (by decide) (by decide) (by decide) (by decide)
  have k6 := VR_keep m d main_arg6 (by decide) (by decide) (by decide) (by decide) (by decide)
  have k7 := VR_keep m d main_arg7 (by decide) (by decide) (by decide) (by decide) (by decide)
  rw [unscopedRest1_eq, k0, k1, k3, k5, k6, k7]

/-- What the launch state holds beside what the core owes, once the one call is over. -/
theorem tcSt_owes (d : Dev nD) : ∃ R : sProp 𝕄, (K (F := F)).tcSt EH d 1 = iprop((owesBelow 8 d : sProp 𝕄) ∗ R) :=
  ⟨_, by unfold SparseCore.Cfg.tcSt owesBelow; rw [SparseCore.Cfg.Otc_end (K (F := F)) d (le_refl 1)]; rfl⟩

/-- The region, as the host program's one custom call of the dense kernel. -/
theorem region_wp [∀ e, Nonempty (Elt F e)] (d : Dev nD) (Q : PUnit → sProp 𝕄) :
    iprop((iprop(boundary (T d) ∗ owesBelow 8 d ∗ (rdat (VR m) 8 d).arraysAt cfg1.N ∗ Pipeline.unscopedRest spec1 d (VR m d)) -∗ Q ⟨⟩)
        ∗ boundary (T d) ∗ (owesBelow 8 d ∗ unscopedBufs d (VR m d)) ∗ levAts ((K (F := F)).L) ((K (F := F)).lev) ∗ G d)
      ⊢ wp frame (wpE ((K (F := F)).defs (D (F := F))) 𝒱 (T d) none) Set.univ
          (Prog.lift (.customCall (SparseCore.inner (Pipeline.entry 0)) ())) Q := by
  have h1 := (K (F := F)).wp_liftProg (N := 1) (U := UU) (Name := ℕ) (D (F := F)) 𝒱 (T d) Set.univ none
    (Prog.op (.customCall (Pipeline.entry 0) ()) fun _ => .ret PUnit.unit) Q
  refine BI.Entails.trans ?_ h1
  refine BI.Entails.trans ?_ (Pipeline.RDat.RegionSeg.wp (pcfgs (F := F)) adm (rdats (VR m) 8) (none : HIx 1) cellOf_inj (EP : Emb UP 𝕄) defs₀ 𝒱₀ _ _
    (regSeg (VR m) 8) d none (fun _ h => nomatch h) (fun _ => Prog.ret PUnit.unit) Q)
  rw [show (regSeg (VR m) 8).pre d = iprop(owesBelow 8 d ∗ unscopedBufs d (VR m d)) from rfl,
    show (regSeg (VR m) 8).post d = iprop(owesBelow 8 d ∗ (rdat (VR m) 8 d).arraysAt cfg1.N ∗ Pipeline.unscopedRest spec1 d (VR m d)) from rfl]
  change (_ : sProp 𝕄) ⊢ _
  unfold G
  iintro ⟨Hk, Hb, Hpre, Hlev, Hg, Ht⟩
  isplitl [Hk]
  · iintro ⟨Hb, Hpost⟩
    rw [wp_ret]
    imodintro
    iapply Hk
    isplitl [Hb]; · iexact Hb
    iexact Hpost
  isplitl [Hb]; · iexact Hb
  isplitl [Hpre]; · iexact Hpre
  isplitl [Hlev]; · iexact Hlev
  isplitl [Hg]; · iexact Hg
  iexact Ht

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_owes (F := F) d
  unfold SparseCore.Cfg.tcRes SparseCore.Cfg.tcEnd G
  rw [show (unscopedBufs d (fun b => m ((d.tc : Thread nD τ).loc b)) : sProp 𝕄) = StableHlo.held (T d) (Pipeline.ucRefs τ sig) (W0 m d) from Pipeline.unscopedBufs_held d (W0 m d),
    StableHlo.held_sub_split (T d) lookupRefs_sub, held_lookup, held_others]
  simp only [main, wp_bind, wp_pure]
  iintro ⟨#Hctx, Hst, ⟨Hb, ⟨⟨Hi, Hx, Ho⟩, Hrest⟩, Hts, -⟩, Hg, Htk⟩
  iapply ((K (F := F)).wp_run (D (F := F)) 𝒱 (EH := EH) (P := P m) κ d 0)
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  ihave Hheld := (show iprop(((iLoc d ↦{fullShare} m (iLoc d)) ∗ (xLoc d ↦{fullShare} m (xLoc d)) ∗ (oLoc d ↦{fullShare} (Gth m d : Buf (Elt F) (oLoc d))))
      ∗ StableHlo.held (T d) (Pipeline.ucRefs τ sig \ lookupRefs) (W1 m d)) ⊢ (StableHlo.held (T d) (Pipeline.ucRefs τ sig) (W1 m d) : sProp 𝕄) from by
    rw [StableHlo.held_sub_split (T d) lookupRefs_sub (W1 m d), held_lookup, W1_of_ne m d main_arg0 (by decide), W1_of_ne m d main_arg1 (by decide),
      show W1 m d (r main_v0) = Gth m d from Function.update_self _ _ _]) $$ [Hdn' Hrest]
  · isplitl [Hdn'] <;> iassumption
  iapply (StableHlo.wp_hlo_within 𝒱 (T d) none Set.univ (op := op1 (F := F)) (S := Pipeline.ucRefs τ sig) (Pipeline.sub_ucRefs _ (by show ({_, _} : Finset (DevRef τ sig)) ⊆ _; decide))) $$ [Hb Hheld]
  · isplitl [Hb] <;> iassumption
  iintro ⟨Hb, Hheld⟩
  rw [wp_ret]
  imodintro
  iapply (StableHlo.wp_hlo_within 𝒱 (T d) none Set.univ (op := op2 (F := F)) (S := Pipeline.ucRefs τ sig) (Pipeline.sub_ucRefs _ (by show ({_, _} : Finset (DevRef τ sig)) ⊆ _; decide))) $$ [Hb Hheld]
  · isplitl [Hb] <;> iassumption
  iintro ⟨Hb, Hheld⟩
  rw [wp_ret]
  imodintro
  iapply (StableHlo.wp_hlo_within 𝒱 (T d) none Set.univ (op := op3 (F := F)) (S := Pipeline.ucRefs τ sig) (Pipeline.sub_ucRefs _ (by show ({_, _} : Finset (DevRef τ sig)) ⊆ _; decide))) $$ [Hb Hheld]
  · isplitl [Hb] <;> iassumption
  iintro ⟨Hb, Hheld⟩
  rw [wp_ret]
  imodintro
  iapply (StableHlo.wp_hlo_within 𝒱 (T d) none Set.univ (op := op4 (F := F)) (S := Pipeline.ucRefs τ sig) (Pipeline.sub_ucRefs _ (by show ({_, _} : Finset (DevRef τ sig)) ⊆ _; decide))) $$ [Hb Hheld]
  · isplitl [Hb] <;> iassumption
  iintro ⟨Hb, Hheld⟩
  rw [wp_ret]
  imodintro
  ihave Hbufs := (show (StableHlo.held (T d) (Pipeline.ucRefs τ sig) ((op4 (F := F)).result ((op3 (F := F)).result ((op2 (F := F)).result ((op1 (F := F)).result (W1 m d))))) : sProp 𝕄) ⊢ unscopedBufs d (VR m d) from
    Entails.of_eq (Pipeline.unscopedBufs_held d (W2 m d)).symm) $$ Hheld
  ihave Hlev := ((K (F := F)).ctx_levAts κ) $$ Hctx
  ihave Hst' := (show (K (F := F)).tcSt EH d ((0 : Fin 1).val + 1) ⊢ (iprop((owesBelow 8 d : sProp 𝕄) ∗ R) : sProp 𝕄) from Entails.of_eq hR) $$ Hst
  rw [hR]
  icases Hst' with ⟨HO, HR⟩
  iapply (region_wp m d _)
  isplitr [Hb HO Hbufs Hg Htk]
  swap
  · isplitl [Hb]; · iexact Hb
    isplitl [HO Hbufs]
    · isplitl [HO]; · iexact HO
      iexact Hbufs
    isplitr; · iexact Hlev
    unfold G
    isplitl [Hg]; · iexact Hg
    iexact Htk
  iintro ⟨Hb, HO, Harr, Hrest⟩
  ihave Harr' := (arrays_after m d) $$ Harr
  icases Harr' with ⟨H2, H4, ⟨%X, %hX, H5⟩⟩
  ihave Hrest' := (rest_after m d) $$ Hrest
  icases Hrest' with ⟨H0, H1, H3, H5', H6, H7, Hv6⟩
  let W6 : Valuation τ sig (Elt F) := Function.update (W2 m d) (r main_v5) X
  ihave Hlast := (show iprop(((d : Thread nD τ).loc main_v5 ↦{fullShare} X) ∗ ((d : Thread nD τ).loc main_v6 ↦{fullShare} VR m d main_v6))
      ⊢ (StableHlo.held (T d) lastRefs W6 : sProp 𝕄) from by
    rw [held_last, show W6 (r main_v5) = X from Function.update_self _ _ _, show W6 (r main_v6) = VR m d main_v6 from Function.update_of_ne (by decide) _ _]) $$ [H5 Hv6]
  · isplitl [H5] <;> iassumption
  iapply (StableHlo.wp_hlo_within 𝒱 (T d) none Set.univ (op := op5 (F := F)) (S := lastRefs) (by show ({_, _} : Finset (DevRef τ sig)) ⊆ _; decide)) $$ [Hb Hlast]
  · isplitl [Hb] <;> iassumption
  iintro ⟨Hb, Hlast⟩
  rw [wp_ret]
  imodintro
  imodintro
  ihave Hv6 := (show (StableHlo.held (T d) lastRefs ((op5 (F := F)).result W6) : sProp 𝕄)
      ⊢ ((d : Thread nD τ).loc main_v6 ↦{fullShare} (flip X : Buf (Elt F) ((d : Thread nD τ).loc main_v6))) from by
    rw [held_last, show (op5 (F := F)).result W6 (r main_v6) = flip X from by
      unfold op5; rw [StableHlo.unary_result]; rw [show W6 (r main_v5) = X from Function.update_self _ _ _]; rfl]
    exact sep_elim_right) $$ Hlast
  unfold FIN
  isplitl [HO HR]; · isplitl [HO] <;> iassumption
  isplitr [Hb Hts]
  · isplitl [H0]; · iexact H0
    isplitl [H1]; · iexact H1
    isplitl [H2]; · iexact H2
    isplitl [H3]; · iexact H3
    isplitl [H4]; · iexact H4
    isplitl [H5']; · iexact H5'
    isplitl [H6]; · iexact H6
    isplitl [H7]; · iexact H7
    iexists X
    isplitr; swap; · iexact Hv6
    ipureintro; exact hX
  isplitl [Hb] <;> iassumption

/-! ## What a final state says -/

def fq (d : Dev nD) (s' : Phys nD τ sig (Elt F)) : Prop :=
  (s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_arg4) = m ((d : Thread nD τ).loc main_arg4)
    ∧ s'.mem.mem ((d : Thread nD τ).loc main_arg5) = m ((d : Thread nD τ).loc main_arg5)
    ∧ s'.mem.mem ((d : Thread nD τ).loc main_arg6) = m ((d : Thread nD τ).loc main_arg6)
    ∧ s'.mem.mem ((d : Thread nD τ).loc main_arg7) = m ((d : Thread nD τ).loc main_arg7))
  ∧ ∃ X, OutOK m d X ∧ s'.mem.mem ((d : Thread nD τ).loc main_v6) = (flip X : Buf (Elt F) ((d : Thread nD τ).loc main_v6))

/-- A whole buffer held beside a final state is that state's. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr; swap; · iexact HSI
  ipureintro; exact funext fun i => h i (Finset.mem_univ i)

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, ⟨%X, %hX, Hv⟩⟩, HSI⟩
  ihave H := (agree _ _ s') $$ [HSI H0]
  · isplitl [H0] <;> iassumption
  icases H with ⟨%h0, HSI⟩
  ihave H := (agree _ _ s') $$ [HSI H1]
  · isplitl [H1] <;> iassumption
  icases H with ⟨%h1, HSI⟩
  ihave H := (agree _ _ s') $$ [HSI H2]
  · isplitl [H2] <;> iassumption
  icases H with ⟨%h2, HSI⟩
  ihave H := (agree _ _ s') $$ [HSI H3]
  · isplitl [H3] <;> iassumption
  icases H with ⟨%h3, HSI⟩
  ihave H := (agree _ _ s') $$ [HSI H4]
  · isplitl [H4] <;> iassumption
  icases H with ⟨%h4, HSI⟩
  ihave H := (agree _ _ s') $$ [HSI H5]
  · isplitl [H5] <;> iassumption
  icases H with ⟨%h5, HSI⟩
  ihave H := (agree _ _ s') $$ [HSI H6]
  · isplitl [H6] <;> iassumption
  icases H with ⟨%h6, HSI⟩
  ihave H := (agree _ _ s') $$ [HSI H7]
  · isplitl [H7] <;> iassumption
  icases H with ⟨%h7, HSI⟩
  ihave H := (agree _ _ s') $$ [HSI Hv]
  · isplitl [Hv] <;> iassumption
  icases H with ⟨%hv, -⟩
  ipureintro
  exact ⟨⟨h0, h1, h2, h3, h4, h5, h6, h7⟩, X, hX, hv⟩

/-! ## The run -/

def QC : PUnit × MemSt nD τ sig (Elt F) → Prop := fun r =>
  (∀ d : Dev nD, (r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)
    ∧ r.2.mem ((d : Thread nD τ).loc main_arg4) = m ((d : Thread nD τ).loc main_arg4)
    ∧ r.2.mem ((d : Thread nD τ).loc main_arg5) = m ((d : Thread nD τ).loc main_arg5)
    ∧ r.2.mem ((d : Thread nD τ).loc main_arg6) = m ((d : Thread nD τ).loc main_arg6)
    ∧ r.2.mem ((d : Thread nD τ).loc main_arg7) = m ((d : Thread nD τ).loc main_arg7))
    ∧ ∃ X, OutOK m d X ∧ r.2.mem ((d : Thread nD τ).loc main_v6) = (flip X : Buf (Elt F) ((d : Thread nD τ).loc main_v6)))
  ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.RunKernelIdeal

end
-- ==== Proof.KernelIdeal.Tokens.lean ====
/-
  What the precondition `tokens_in_range` says of the words it is computed from: every token number, read as a natural,
  is below the number of rows of the table. For any reading of the floats, so that the frames at bit patterns and the
  value claim at extended reals use the same lemma.
-/
module

public import proofs.«01_k».proof.Proof.Gen.Pre_tokens_in_range
public import Idealize.ShloMosaic.Lib.ReduceAll
public import Idealize.ShloMosaic.Lib.WordCmp

@[expose] public section

noncomputable section

namespace Cert.Proof.Tokens

open Cert.Pre_tokens_in_range Cert.Pre_tokens_in_range.Facts
open Idealize.ShloMosaic

/-- A word that is at least 0 and below 50257, read signed, is below 50257 read unsigned. -/
theorem word_lt {w : BitVec 32} (h : IntOp.andi (IntOp.cmpi .sge w 0#32) (IntOp.cmpi .slt w 50257#32) = 1#1) :
    w.toNat < 50257 := by
  rw [WordCmp.cmpi_sge_eq, WordCmp.cmpi_slt_eq, WordCmp.andi_ofBool, WordCmp.ofBool_eq_one_iff, Bool.and_eq_true,
    decide_eq_true_eq, decide_eq_true_eq] at h
  have hc := BitVec.toInt_eq_toNat_cond (x := w)
  have h0 : (0#32 : BitVec 32).toInt = 0 := by decide
  have hn : (50257#32 : BitVec 32).toInt = 50257 := by decide
  rw [h0, hn] at h
  have hw := w.isLt
  split at hc <;> omega

instance : Subsingleton S_.Idx := ⟨fun a b => funext fun i => i.elim0⟩

/-- The precondition holds only if every token number is below 50257. -/
theorem lt_of_pre [Facts] {F : FTy → Type} [FloatOps F] {a0 : IVec S2048 32} {a1 : FVec F S50257x128 .f32} {a2 : FVec F S128x128 .f32}
    {a3 : FVec F S128 .f32} {a4 : FVec F S128x128 .f32} {a5 : FVec F S128 .f32} {a6 : FVec F S128x50257 .f32}
    {a7 : FVec F S50257 .f32} (h : fn a0 a1 a2 a3 a4 a5 a6 a7 = fun _ => 1#1) (j : S2048.Idx) : (a0 j).toNat < 50257 :=
  word_lt (Host.reduce_andi_all _ _ _ _ (fun i => i.elim0) (congrFun h _) j)

end Cert.Proof.Tokens

end
-- ==== Proof.KernelIdeal.RefValue.lean ====
/-
  The reference's result at extended reals, element by element. The network is stated over coordinates: a layer is a sum of
  products plus a bias under the rectifier, the last layer has no rectifier, and the first one's input row `r` is the
  table's row that token `r` names. The reference wraps negative token numbers, masks those out of range and looks up the
  rest; where every token number is in range neither the wrapping nor the mask does anything.
-/
module

public import proofs.«01_k».proof.Proof.Gen.ReferenceIdeal.Run
public import proofs.«01_k».proof.Proof.KernelIdeal.Tokens
public import Idealize.ShloMosaic.Lib.Pointwise
public import Idealize.ShloMosaic.Lib.Routing.Ops

@[expose] public section

noncomputable section

namespace Cert.Proof.Net

open Idealize.ShloMosaic
open scoped BigOperators

/-- A hidden layer: row `r` of the activations against column `k` of the weights, the bias added, negative values put to 0. -/
def hid (E : Fin 2048 → Fin 128 → EReal) (W : (⟨2, ![128, 128]⟩ : Shape).Idx → EReal) (b : (⟨1, ![128]⟩ : Shape).Idx → EReal)
    (r : Fin 2048) (k : Fin 128) : EReal :=
  max ((∑ l : Fin 128, E r l * W (ix2 l k)) + b (ix1 k)) 0

/-- The output layer: row `r` of the activations against column `v` of the weights, the bias added. -/
def logit (H : Fin 2048 → Fin 128 → EReal) (W : (⟨2, ![128, 50257]⟩ : Shape).Idx → EReal)
    (b : (⟨1, ![50257]⟩ : Shape).Idx → EReal) (r : Fin 2048) (v : Fin 50257) : EReal :=
  (∑ l : Fin 128, H r l * W (ix2 l v)) + b (ix1 v)

/-- The table row that token `r` names; row 0 for a number out of range. -/
def row (tok : (⟨1, ![2048]⟩ : Shape).Idx → BitVec 32) (r : Fin 2048) : Fin 50257 :=
  if h : (tok (ix1 r)).toNat < 50257 then ⟨(tok (ix1 r)).toNat, h⟩ else 0

/-- The whole network: embed, two hidden layers, the output layer. -/
def net (tok : (⟨1, ![2048]⟩ : Shape).Idx → BitVec 32) (tab : (⟨2, ![50257, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 50257]⟩ : Shape).Idx → EReal) (b3 : (⟨1, ![50257]⟩ : Shape).Idx → EReal)
    (r : Fin 2048) (v : Fin 50257) : EReal :=
  logit (hid (hid (fun r k => tab (ix2 (row tok r) k)) W1 b1) W2 b2) W3 b3 r v

end Cert.Proof.Net

namespace Cert.Proof.RefValue

open Cert.ReferenceIdeal Cert.ReferenceIdeal.Facts Cert.ReferenceIdeal.Gen
open Idealize.ShloMosaic Idealize.ShloMosaic.Routing
open scoped BigOperators
open Cert.Proof.Net

/-- A word below 50257 is not negative, so the wrapping of negative indices leaves it. -/
theorem wrap_word {w : BitVec 32} (h : w.toNat < 50257) :
    Scalar.select (IntOp.cmpi .slt w 0#32) (IntOp.addi w 50257#32) w = w := by
  have hs : IntOp.cmpi .slt w 0#32 = 0#1 := by
    rw [WordCmp.cmpi_slt_eq, WordCmp.ofBool_eq_zero_iff, decide_eq_false_iff_not,
      WordCmp.toInt_eq_toNat_of_lt_half (show w.toNat < 2 ^ (32 - 1) by omega)]
    have h0 : (0#32 : BitVec 32).toInt = 0 := by decide
    omega
  rw [hs]
  exact if_neg (by decide)

/-- A word below 50257 passes the range test. -/
theorem in_range_word {w : BitVec 32} (h : w.toNat < 50257) :
    IntOp.andi (IntOp.cmpi .sge w 0#32) (IntOp.cmpi .sle w 50256#32) = 1#1 := by
  have h0 : (0#32 : BitVec 32).toInt = 0 := by decide
  have hn : (50256#32 : BitVec 32).toInt = 50256 := by decide
  rw [WordCmp.cmpi_sge_eq, WordCmp.cmpi_sle_eq, WordCmp.andi_ofBool, WordCmp.ofBool_eq_one_iff, Bool.and_eq_true,
    decide_eq_true_eq, decide_eq_true_eq, WordCmp.toInt_eq_toNat_of_lt_half (show w.toNat < 2 ^ (32 - 1) by omega), h0, hn]
  omega

/-- The token numbers after the wrapping, as the column the lookup reads. -/
def idx (tok : IVec S2048 32) : IVec S2048x1 32 :=
  broadcastInDim S2048x1 ![0] bcast_S2048_S2048x1_0 (select (cmpi .slt tok (broadcastInDim S2048 ![] bcast_S_S2048 (constantI S_ 32 0#32))) (addi tok (broadcastInDim S2048 ![] bcast_S_S2048 (constantI S_ 32 50257#32))) tok)

/-- The looked-up rows, those out of range filled. -/
def emb (tok : IVec S2048 32) (tab : FVec Ideal S50257x128 .f32) : FVec Ideal S2048x128 .f32 :=
  select (broadcastInDim S2048x128 ![0] bcast_S2048_S2048x128_0 (Host.reduce IntOp.andi (andi (cmpi .sge (idx tok) (broadcastInDim S2048x1 ![] bcast_S_S2048x1 (constantI S_ 32 0#32))) (cmpi .sle (idx tok) (broadcastInDim S2048x1 ![0, 1] bcast_S1x1_S2048x1_0_1 (broadcastInDim S1x1 ![1] bcast_S1_S1x1_1 (constantI S1 32 50256#32))))) (constantI S_ 1 1#1) reducesTo_S2048x1_S2048_d1 h_S_)) (Host.gather gather_S50257x128_S2048x1_S2048x128_1_0_n_n_0_1_1128 tab (idx tok)) (broadcastInDim S2048x128 ![] bcast_S_S2048x128 (constant S_ .f32 0x7FC00000#32))

/-- A hidden layer as the reference computes it. -/
def layer (X : FVec Ideal S2048x128 .f32) (W : FVec Ideal S128x128 .f32) (b : FVec Ideal S128 .f32) : FVec Ideal S2048x128 .f32 :=
  maximumf (addf (Host.dotGeneral dot_S2048x128_S128x128_S2048x128_1_0_0_1_n_n none X W) (broadcastInDim S2048x128 ![0, 1] bcast_S1x128_S2048x128_0_1 (broadcastInDim S1x128 ![1] bcast_S128_S1x128_1 b))) (broadcastInDim S2048x128 ![] bcast_S_S2048x128 (constant S_ .f32 0x00000000#32))

/-- The output layer as the reference computes it. -/
def out (X : FVec Ideal S2048x128 .f32) (W : FVec Ideal S128x50257 .f32) (b : FVec Ideal S50257 .f32) : FVec Ideal S2048x50257 .f32 :=
  addf (Host.dotGeneral dot_S2048x128_S128x50257_S2048x50257_1_0_0_1_n_n none X W) (broadcastInDim S2048x50257 ![0, 1] bcast_S1x50257_S2048x50257_0_1 (broadcastInDim S1x50257 ![1] bcast_S50257_S1x50257_1 b))

theorem idx_apply {tok : IVec S2048 32} (h : ∀ j, (tok j).toNat < 50257) (j : S2048x1.Idx) : idx tok j = tok (ix1 (j 0)) := by
  unfold idx
  pointwise
  exact wrap_word (h _)

theorem emb_apply {tok : IVec S2048 32} (h : ∀ j, (tok j).toNat < 50257) (tab : FVec Ideal S50257x128 .f32) (r : Fin 2048) (k : Fin 128) :
    emb tok tab (ix2 r k) = tab (ix2 (row tok r) k) := by
  have hm : ∀ j, Host.reduce IntOp.andi (andi (cmpi .sge (idx tok) (broadcastInDim S2048x1 ![] bcast_S_S2048x1 (constantI S_ 32 0#32))) (cmpi .sle (idx tok) (broadcastInDim S2048x1 ![0, 1] bcast_S1x1_S2048x1_0_1 (broadcastInDim S1x1 ![1] bcast_S1_S1x1_1 (constantI S1 32 50256#32))))) (constantI S_ 1 1#1) reducesTo_S2048x1_S2048_d1 h_S_ j = 1#1 := fun j =>
    Host.reduce_andi_one _ _ _ _ _ rfl fun i => by
      pointwise
      rw [idx_apply h]
      exact in_range_word (h _)
  have hg : Host.gather gather_S50257x128_S2048x1_S2048x128_1_0_n_n_0_1_1128 tab (idx tok) (ix2 r k) = tab (ix2 (row tok r) k) :=
    gather_row _ rfl rfl rfl rfl rfl tab (idx tok) r k (row tok r) (by
      rw [idx_apply h]
      show tok (ix1 r) = _
      unfold row
      rw [dif_pos (h _)]
      exact (BitVec.ofNat_toNat 32 _).symm ▸ (BitVec.setWidth_eq _).symm) (by decide)
  unfold emb
  show Scalar.select _ _ _ = _
  exact (if_pos (hm _)).trans hg

theorem layer_apply (X : FVec Ideal S2048x128 .f32) (W : FVec Ideal S128x128 .f32) (b : FVec Ideal S128 .f32) (r : Fin 2048) (k : Fin 128) :
    layer X W b (ix2 r k) = hid (fun r k => X (ix2 r k)) W b r k := by
  unfold layer hid
  pointwise

theorem out_apply (X : FVec Ideal S2048x128 .f32) (W : FVec Ideal S128x50257 .f32) (b : FVec Ideal S50257 .f32) (r : Fin 2048) (v : Fin 50257) :
    out X W b (ix2 r v) = logit (fun r k => X (ix2 r k)) W b r v := by
  unfold out logit
  pointwise

/-- The reference's result as one term of its arguments. -/
def val (tok : IVec S2048 32) (tab : FVec Ideal S50257x128 .f32) (W1 : FVec Ideal S128x128 .f32) (b1 : FVec Ideal S128 .f32)
    (W2 : FVec Ideal S128x128 .f32) (b2 : FVec Ideal S128 .f32) (W3 : FVec Ideal S128x50257 .f32) (b3 : FVec Ideal S50257 .f32) :
    FVec Ideal S2048x50257 .f32 :=
  out (layer (layer (emb tok tab) W1 b1) W2 b2) W3 b3

/-- Where every token number is in range, the reference's result is the network. -/
theorem val_apply {tok : IVec S2048 32} (h : ∀ j, (tok j).toNat < 50257) (tab : FVec Ideal S50257x128 .f32) (W1 : FVec Ideal S128x128 .f32)
    (b1 : FVec Ideal S128 .f32) (W2 : FVec Ideal S128x128 .f32) (b2 : FVec Ideal S128 .f32) (W3 : FVec Ideal S128x50257 .f32)
    (b3 : FVec Ideal S50257 .f32) (r : Fin 2048) (v : Fin 50257) :
    val tok tab W1 b1 W2 b2 W3 b3 (ix2 r v) = net tok tab W1 b1 W2 b2 W3 b3 r v := by
  unfold val net
  rw [out_apply]
  simp only [layer_apply, emb_apply h]

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = val (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.ReferenceIdeal.Value.run (F := Ideal) m ρ

end Cert.Proof.RefValue

end
-- ==== Proof.KernelIdeal.Payloads.lean ====
/-
  The two values the dense kernel computes, at extended reals and element by element: the hidden activations, transposed,
  and one block of the transposed logits. A block's row depends on that row of the weights and of the bias alone, so what a
  clipped block holds past the arrays' ends reaches no row that is written back.
-/
module

public import proofs.«01_k».proof.Proof.Gen.KernelIdeal.Skeleton
public import proofs.«01_k».proof.Proof.KernelIdeal.RefValue
public import Idealize.ShloMosaic.Lib.Pointwise

@[expose] public section

noncomputable section

namespace Cert.Proof.Payloads

open Cert.KernelIdeal Cert.KernelIdeal.Gen
open Idealize.ShloMosaic
open scoped BigOperators
open Cert.Proof.Net

/-- The transposed hidden activations are the second hidden layer over the first. -/
theorem pay1_apply (E : FVec Ideal S2048x128 .f32) (W1 : FVec Ideal S128x128 .f32) (b1 : FVec Ideal S1x128 .f32)
    (W2 : FVec Ideal S128x128 .f32) (b2 : FVec Ideal S128x1 .f32) (k : Fin 128) (r : Fin 2048) :
    k1_pay1 (F := Ideal) E W1 b1 W2 b2 (ix2 k r)
      = hid (hid (fun r k => E (ix2 r k)) W1 (fun i => b1 (ix2 0 (i 0)))) W2 (fun i => b2 (ix2 (i 0) 0)) r k := by
  unfold hid
  pointwise [k1_pay1]
  simp only [mul_comm]

/-- A block of the transposed logits: the block's rows of the weights against the activations, the bias added. -/
theorem pay2_apply (b : FVec Ideal S1x2048 .f32) (W : FVec Ideal S2048x128 .f32) (H : FVec Ideal S128x2048 .f32)
    (i : Fin 2048) (r : Fin 2048) :
    k1_pay2 (F := Ideal) b W H (ix2 i r) = (∑ l : Fin 128, H (ix2 l r) * W (ix2 i l)) + b (ix2 0 i) := by
  pointwise [k1_pay2]
  simp only [mul_comm, Finset.univ_unique, Finset.sum_singleton, Fin.default_eq_zero]

end Cert.Proof.Payloads

end
-- ==== Proof.KernelIdeal.Blocks.lean ====
/-
  The dense kernel's result array, whole, at extended reals: whatever the fetched blocks held past the arrays' ends, the
  array after the last write-back is the transposed logits of the arrays the region was given.
-/
module

public import proofs.«01_k».proof.Proof.KernelIdeal.Region
public import proofs.«01_k».proof.Proof.KernelIdeal.Payloads

@[expose] public section

noncomputable section

namespace Cert.Proof.RunKernelIdeal

open Cert.KernelIdeal Cert.KernelIdeal.Gen
open Idealize.ShloMosaic Idealize.ShloMosaic.TcCoe
open scoped BigOperators

variable (V : (c : Dev nD) → (b : Ref sig .tc) → Buf (Elt Ideal) ((c : Thread nD τ).loc b)) (b : ℕ) (c : Dev nD)

/-- The row of the result array at which point `t` writes back row `y 0` of its block. -/
def outRow (t : Fin cfg1.N) (y : ((cfg1.win 7).xblock (cfg1.grid.coords t)).Idx) : Fin 50257 := ((cfg1.win 7).blk t).view.emb y 0

/-- A row of the weights' block that is written back is the array's row. -/
theorem fet5_at (t : Fin cfg1.N) (d) (y : ((cfg1.win 7).xblock (cfg1.grid.coords t)).Idx) (l : Fin 128) :
    fet V c 5 t d (ix2 ((cfg1.win 7).xinj (cfg1.grid.coords t) y 0) l) = V c main_v3 (ix2 (outRow t y) l) := by
  have hm : (cfg1.win 5).moved (cfg1.grid.coords t) (ix2 ((cfg1.win 7).xinj (cfg1.grid.coords t) y 0) l) = true :=
    ((cfg1.win 5).moved_iff _ _).mpr fun a => by
      match a with
      | ⟨0, _⟩ => exact (y 0).isLt
      | ⟨1, _⟩ => exact l.isLt
  unfold fet Pipeline.Window.fill
  rw [dif_pos hm]
  refine congrArg (V c main_v3) (funext fun a => Fin.ext ?_)
  match a with
  | ⟨0, _⟩ => rfl
  | ⟨1, _⟩ => show 0 * 128 + 1 * l.val = l.val; omega

/-- An element of the bias's block whose row is written back is the array's. -/
theorem fet6_at (t : Fin cfg1.N) (d) (y : ((cfg1.win 7).xblock (cfg1.grid.coords t)).Idx) :
    fet V c 6 t d (ix2 0 ((cfg1.win 7).xinj (cfg1.grid.coords t) y 0)) = V c main_v4 (ix2 0 (outRow t y)) := by
  have hm : (cfg1.win 6).moved (cfg1.grid.coords t) (ix2 0 ((cfg1.win 7).xinj (cfg1.grid.coords t) y 0)) = true :=
    ((cfg1.win 6).moved_iff _ _).mpr fun a => by
      match a with
      | ⟨0, _⟩ => exact Nat.one_pos
      | ⟨1, _⟩ => exact (y 0).isLt
  unfold fet Pipeline.Window.fill
  rw [dif_pos hm]
  refine congrArg (V c main_v4) (funext fun a => Fin.ext ?_)
  match a with
  | ⟨0, _⟩ => rfl
  | ⟨1, _⟩ => rfl

/-- The transposed logits of the arrays the region was given. -/
def outT : S50257x2048.Idx → EReal := fun j =>
  (∑ l : Fin 128, HT V c (ix2 l (j 1)) * V c main_v3 (ix2 (j 0) l)) + V c main_v4 (ix2 0 (j 0))

/-- What the region leaves in the result array is the transposed logits. -/
theorem arr_out (X : S50257x2048.Idx → EReal) (h : (rdat V b c).ArrAt 7 cfg1.N X) : X = outT V c := by
  obtain ⟨Y, hY, hA⟩ := h.exists_exact
  rw [hA (Function.update (fun _ _ _ => Classical.arbitrary _) 7 Y) fun u _ _ => by rw [Function.update_self]]
  refine Pipeline.Dat.arrAt_eq_of_covers _ 7 _ (by decide +kernel) fun t hf y => ?_
  obtain ⟨_, -, d5, d6, hX⟩ := hY t t.isLt hf
  change Function.update (β := fun w' => Fin cfg1.N → (cfg1.win w').block.Idx → Elt Ideal (cfg1.win w').elt)
    (fun _ _ _ => Classical.arbitrary _) 7 Y 7 t ((cfg1.win 7).xinj (cfg1.grid.coords t) y) = outT V c (((cfg1.win 7).blk t).view.emb y)
  rw [Function.update_self, hX]
  have ey : (cfg1.win 7).xinj (cfg1.grid.coords t) y
      = ix2 ((cfg1.win 7).xinj (cfg1.grid.coords t) y 0) ((cfg1.win 7).xinj (cfg1.grid.coords t) y 1) := eq_ix2 _
  have er : (((cfg1.win 7).blk t).view.emb y 1 : Fin 2048) = (cfg1.win 7).xinj (cfg1.grid.coords t) y 1 :=
    Fin.ext (by show 0 * 2048 + 1 * (y 1).val = (y 1).val; omega)
  refine (congrArg _ ey).trans ((Payloads.pay2_apply _ _ _ _ _).trans ?_)
  unfold outT
  rw [er, fet6_at]
  exact congrArg (· + V c main_v4 (ix2 0 (outRow t y))) (Finset.sum_congr rfl fun l _ => by rw [fet5_at]; rfl)

end Cert.Proof.RunKernelIdeal

end
-- ==== Proof.KernelIdeal.Value.lean ====
/-
  The kernel's result at extended reals: where every token number is in range, the transposition of what the region leaves
  is the network of the arguments, element by element.
-/
module

public import proofs.«01_k».proof.Proof.KernelIdeal.Run
public import proofs.«01_k».proof.Proof.KernelIdeal.Blocks

@[expose] public section

noncomputable section

namespace Cert.Proof.RunKernelIdeal

open Cert.KernelIdeal Cert.KernelIdeal.Gen
open Idealize.ShloMosaic Idealize.ShloMosaic.TcCoe
open Idealize.ShloMosaic.SparseCore (T)
open scoped BigOperators
open Cert.Proof.Net

variable (m : (ℓ : Loc nD τ sig) → Buf (Elt Ideal) ℓ) (d : Dev nD)

/-- The rows the lookup delivers are the rows that the token numbers name. -/
theorem gth_apply (r : Fin 2048) (k : Fin 128) :
    (Gth m d (ix2 r k) : EReal) = (m ((d : Thread nD τ).loc main_arg1) : S50257x128.Idx → EReal) (ix2 (row (m ((d : Thread nD τ).loc main_arg0)) r) k) := by
  have e1 : (fun | 0 => (ix2 r k : S2048x128.Idx) 0 : S2048.Idx) = ix1 r := funext fun a => by
    match a with
    | ⟨0, _⟩ => rfl
  unfold Gth
  refine congrArg (m ((d : Thread nD τ).loc main_arg1) : S50257x128.Idx → EReal) (funext fun a => ?_)
  match a with
  | ⟨0, _⟩ => exact congrArg (tokRow m d) e1
  | ⟨1, _⟩ => rfl

/-- The hidden activations, from the arguments. -/
theorem HT_apply (k : Fin 128) (r : Fin 2048) :
    HT (VR m) d (ix2 k r)
      = hid (hid (fun r k => (m ((d : Thread nD τ).loc main_arg1) : S50257x128.Idx → EReal) (ix2 (row (m ((d : Thread nD τ).loc main_arg0)) r) k))
          (m ((d : Thread nD τ).loc main_arg2)) (m ((d : Thread nD τ).loc main_arg3)))
          (m ((d : Thread nD τ).loc main_arg4)) (m ((d : Thread nD τ).loc main_arg5)) r k := by
  unfold HT
  rw [Payloads.pay1_apply, VR_v0, VR_v1, VR_v2, VR_keep m d main_arg2 (by decide) (by decide) (by decide) (by decide) (by decide),
    VR_keep m d main_arg4 (by decide) (by decide) (by decide) (by decide) (by decide)]
  simp only [gth_apply]
  have e1 : (fun i : S128.Idx => broadcastInDim S1x128 ![1] bcast_S128_S1x128_1 (m ((d : Thread nD τ).loc main_arg3) : S128.Idx → EReal) (ix2 0 (i 0)))
      = (m ((d : Thread nD τ).loc main_arg3) : S128.Idx → EReal) := funext fun i => by
    pointwise
  have e2 : (fun i : S128.Idx => broadcastInDim S128x1 ![0] bcast_S128_S128x1_0 (m ((d : Thread nD τ).loc main_arg5) : S128.Idx → EReal) (ix2 (i 0) 0))
      = (m ((d : Thread nD τ).loc main_arg5) : S128.Idx → EReal) := funext fun i => by
    pointwise
  exact congrArg₂ (fun p q => hid (hid (fun r k => (m ((d : Thread nD τ).loc main_arg1) : S50257x128.Idx → EReal) (ix2 (row (m ((d : Thread nD τ).loc main_arg0)) r) k))
          (m ((d : Thread nD τ).loc main_arg2)) p) (m ((d : Thread nD τ).loc main_arg4)) q r k) e1 e2

/-- The result, element by element, from the arguments. -/
theorem out_apply (X) (h : OutOK m d X) (r : Fin 2048) (v : Fin 50257) :
    (flip X (ix2 r v) : EReal) = net (m ((d : Thread nD τ).loc main_arg0)) (m ((d : Thread nD τ).loc main_arg1)) (m ((d : Thread nD τ).loc main_arg2))
      (m ((d : Thread nD τ).loc main_arg3)) (m ((d : Thread nD τ).loc main_arg4)) (m ((d : Thread nD τ).loc main_arg5))
      (m ((d : Thread nD τ).loc main_arg6)) (m ((d : Thread nD τ).loc main_arg7)) r v := by
  have e3 : ∀ l : Fin 128, (VR m d main_v3 : S50257x128.Idx → EReal) (ix2 v l) = (m ((d : Thread nD τ).loc main_arg6) : S128x50257.Idx → EReal) (ix2 l v) :=
    fun l => by rw [VR_v3]; pointwise
  have e4 : (VR m d main_v4 : S1x50257.Idx → EReal) (ix2 0 v) = (m ((d : Thread nD τ).loc main_arg7) : S50257.Idx → EReal) (ix1 v) := by
    rw [VR_v4]; pointwise
  have ef : (flip X (ix2 r v) : EReal) = X (ix2 v r) := by unfold flip; pointwise
  rw [ef, arr_out (VR m) 8 d X h]
  unfold outT net logit
  refine congrArg₂ (· + ·) (Finset.sum_congr rfl fun l _ => congrArg₂ (· * ·) (HT_apply m d l r) (e3 l)) e4

end Cert.Proof.RunKernelIdeal

end
-- ==== Proof.lean ====
/-
  The proof of `Cert.Claim` (proofs.«01_k».proof.Defs).

  * The frames of the kernel, at bit patterns and at extended reals, are the run of the whole program
    (Proof/Kernel/Run.lean, Proof/KernelIdeal/Run.lean), whose one assumption is what the precondition says of the token
    numbers (Proof/KernelIdeal/Tokens.lean).
  * The reference's frame is its run of host operations; it declares no semaphore.
  * No operation was rewritten between the kernel and its idealization.
  * The value claim: the reference's result is the network (Proof/KernelIdeal/RefValue.lean), and so is the kernel's
    (Proof/KernelIdeal/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_tokens_in_range
public import proofs.«01_k».proof.Proof.Kernel.Run
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem

instance (e : EltTy) : Nonempty (Elt Bits e) := by cases e <;> exact ⟨(0 : BitVec _)⟩
instance (e : EltTy) : Nonempty (Elt Ideal e) := by
  cases e <;> first | exact ⟨(0 : BitVec _)⟩ | exact ⟨(0 : EReal)⟩

/-- The kernel leaves its arguments as they were and every counter at zero. -/
theorem frame_kernel : Cert.quiescent_Kernel := fun m ρ hpre =>
  (θ_run Cert.Kernel.defs _ _).mono (fun _ h => ⟨fun c => (h.1 c).1, h.2⟩)
    (RunKernel.run_main (F := Bits) m ρ fun d j => Tokens.lt_of_pre (hpre d) j)

/-- So does the kernel at extended reals. -/
theorem frame_ideal : Cert.quiescent_KernelIdeal := fun m ρ hpre =>
  (θ_run Cert.KernelIdeal.defs _ _).mono (fun _ h => ⟨fun c => (h.1 c).1, h.2⟩)
    (RunKernelIdeal.run_main (F := Ideal) m ρ fun d j => Tokens.lt_of_pre (hpre d) j)

/-- So does the reference. -/
theorem frame_reference : Cert.quiescent_ReferenceIdeal := fun m ρ _ =>
  (θ_run Cert.ReferenceIdeal.defs _ _).mono
    (fun r h => ⟨fun c => (h c).2, sem_eq_zero_of_no_sems (by decide) r.2⟩) (RefValue.run m ρ)

/-- Where every token number is in range, the kernel and the reference, at extended reals, end with equal results. -/
theorem value : Cert.algebraic_KernelIdeal_ReferenceIdeal := by
  intro m ρ m' ρ' hpre hagree
  have hok : RunKernelIdeal.PreOK m := fun d j => Tokens.lt_of_pre (hpre d) j
  refine ⟨fun c => RefValue.val
      (m (c, Proc.devRef .tc Cert.KernelIdeal.main_arg0)) (m (c, Proc.devRef .tc Cert.KernelIdeal.main_arg1))
      (m (c, Proc.devRef .tc Cert.KernelIdeal.main_arg2)) (m (c, Proc.devRef .tc Cert.KernelIdeal.main_arg3))
      (m (c, Proc.devRef .tc Cert.KernelIdeal.main_arg4)) (m (c, Proc.devRef .tc Cert.KernelIdeal.main_arg5))
      (m (c, Proc.devRef .tc Cert.KernelIdeal.main_arg6)) (m (c, Proc.devRef .tc Cert.KernelIdeal.main_arg7)), ?_, ?_⟩
  · refine (θ_run Cert.KernelIdeal.defs _ _).mono (fun r h c => ⟨?_, (h.1 c).1⟩) (RunKernelIdeal.run_main (F := Ideal) m ρ hok)
    obtain ⟨X, hX, e⟩ := (h.1 c).2
    refine e.trans (funext fun j => ?_)
    obtain ⟨a, b, rfl⟩ : ∃ (a : Fin 2048) (b : Fin 50257), j = ix2 a b := ⟨j 0, j 1, eq_ix2 j⟩
    exact (RunKernelIdeal.out_apply m c X hX a b).trans (RefValue.val_apply (fun i => hok c i) _ _ _ _ _ _ _ a b).symm
  · refine (θ_run Cert.ReferenceIdeal.defs _ _).mono (fun r h c => ⟨(h c).1.trans ?_, (h c).2⟩) (RefValue.run m' ρ')
    obtain ⟨h0, h1, h2, h3, h4, h5, h6, h7⟩ := hagree c
    rw [h0, h1, h2, h3, h4, h5, h6, h7]

theorem claim : Cert.Claim := ⟨Cert.Kernel.Gen.facts, Cert.KernelIdeal.Gen.facts, Cert.ReferenceIdeal.Gen.facts, Cert.Pre_tokens_in_range.Gen.facts,
  frame_kernel, frame_ideal, frame_reference, fun m ρ _ => frame_reference m ρ trivial, trivial, value⟩

end Cert.Proof

end
